-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 4096]⟩ ⟨3, ![2, 8192, 4096]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = Layout.blockN ⟨2, ![4096, 4096]⟩ ⟨2, ![8192, 4096]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S4096 : Shape := ⟨1, ![4096]⟩
abbrev S8192x4096 : Shape := ⟨2, ![8192, 4096]⟩
abbrev S1x4096 : Shape := ⟨2, ![1, 4096]⟩
abbrev S4096x4096 : Shape := ⟨2, ![4096, 4096]⟩
abbrev S2048x4096 : Shape := ⟨2, ![2048, 4096]⟩
abbrev S128x4096 : Shape := ⟨2, ![128, 4096]⟩
abbrev S3 : Shape := ⟨1, ![3]⟩
abbrev S16 : Shape := ⟨1, ![16]⟩
abbrev S_ : Shape := ⟨0, ![]⟩
abbrev S1 : Shape := ⟨1, ![1]⟩
abbrev S128 : Shape := ⟨1, ![128]⟩
abbrev S128x1 : Shape := ⟨2, ![128, 1]⟩

abbrev nBuf : Space → Nat
  | .hbm => 6
  | .vmem => 4
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S4096x4096, .f32⟩
  | .hbm, ⟨5, _⟩ => ⟨S2048x4096, .f32⟩
  | .local _ .vmem, ⟨0, _⟩ => ⟨S1x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v19 : BitVec 32 := Scalar.muli v2 c2_i32_11
  let v20 : BitVec 32 := Scalar.addi c0_i32 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v21 : BitVec 32 := Scalar.muli v6 c1_i32_12
  let v22 : BitVec 32 := Scalar.addi v20 v21
  v22.toNat
def k0_dev2 (d0 : Dev nD) : Nat :=
  let c0_i32_15 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_14 : BitVec 32 := 2#32
  let v23 : BitVec 32 := Scalar.muli v7 c2_i32_14
  let v24 : BitVec 32 := Scalar.addi c0_i32_15 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v25 : BitVec 32 := Scalar.muli v5 c1_i32_16
  let v26 : BitVec 32 := Scalar.addi v24 v25
  v26.toNat
def k0_off1 (d0 : Dev nD) (c0_i32_18 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.subi c1_i32_4 v5
  let c4096_i32_5 : BitVec 32 := 4096#32
  let v12 : BitVec 32 := Scalar.muli v11 c4096_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_6 : BitVec 32 := 2048#32
  let v13 : BitVec 32 := Scalar.muli v2 c2048_i32_6
  let v14 : BitVec 32 := Scalar.addi v12 v13
  let v27 : BitVec 32 := Scalar.addi v14 c0_i32_18
  let c0_i32_26 : BitVec 32 := 0#32
  ![v27.toNat, 0]
def k0_dev3 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v28 : BitVec 32 := Scalar.muli v2 c2_i32_21
  let v29 : BitVec 32 := Scalar.addi c0_i32_22 v28
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_23 : BitVec 32 := 1#32
  let v30 : BitVec 32 := Scalar.muli v6 c1_i32_23
  let v31 : BitVec 32 := Scalar.addi v29 v30
  v31.toNat
def k0_dev4 (d0 : Dev nD) : Nat :=
  let c0_i32_30 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_29 : BitVec 32 := 2#32
  let v39 : BitVec 32 := Scalar.muli v2 c2_i32_29
  let v40 : BitVec 32 := Scalar.addi c0_i32_30 v39
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_31 : BitVec 32 := 1#32
  let v41 : BitVec 32 := Scalar.muli v6 c1_i32_31
  let v42 : BitVec 32 := Scalar.addi v40 v41
  v42.toNat
def k0_dev5 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v50 : BitVec 32 := Scalar.muli v2 c2_i32_37
  let v51 : BitVec 32 := Scalar.addi c0_i32_38 v50
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v52 : BitVec 32 := Scalar.muli v6 c1_i32_39
  let v53 : BitVec 32 := Scalar.addi v51 v52
  v53.toNat
def k0_dev6 (d0 : Dev nD) : Nat :=
  let c0_i32_45 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_44 : BitVec 32 := 2#32
  let v61 : BitVec 32 := Scalar.muli v2 c2_i32_44
  let v62 : BitVec 32 := Scalar.addi c0_i32_45 v61
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_46 : BitVec 32 := 1#32
  let v63 : BitVec 32 := Scalar.muli v6 c1_i32_46
  let v64 : BitVec 32 := Scalar.addi v62 v63
  v64.toNat
def k0_dev7 (d0 : Dev nD) : Nat :=
  let c0_i32_52 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_51 : BitVec 32 := 2#32
  let v72 : BitVec 32 := Scalar.muli v2 c2_i32_51
  let v73 : BitVec 32 := Scalar.addi c0_i32_52 v72
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_53 : BitVec 32 := 1#32
  let v74 : BitVec 32 := Scalar.muli v6 c1_i32_53
  let v75 : BitVec 32 := Scalar.addi v73 v74
  v75.toNat
def k0_dev8 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v83 : BitVec 32 := Scalar.muli v2 c2_i32_58
  let v84 : BitVec 32 := Scalar.addi c0_i32_59 v83
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_60 : BitVec 32 := 1#32
  let v85 : BitVec 32 := Scalar.muli v6 c1_i32_60
  let v86 : BitVec 32 := Scalar.addi v84 v85
  v86.toNat
def k0_dev9 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v94 : BitVec 32 := Scalar.muli v2 c2_i32_65
  let v95 : BitVec 32 := Scalar.addi c0_i32_66 v94
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_67 : BitVec 32 := 1#32
  let v96 : BitVec 32 := Scalar.muli v6 c1_i32_67
  let v97 : BitVec 32 := Scalar.addi v95 v96
  v97.toNat
def k0_dev10 (d0 : Dev nD) : Nat :=
  let c0_i32_73 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_72 : BitVec 32 := 2#32
  let v105 : BitVec 32 := Scalar.muli v2 c2_i32_72
  let v106 : BitVec 32 := Scalar.addi c0_i32_73 v105
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_74 : BitVec 32 := 1#32
  let v107 : BitVec 32 := Scalar.muli v6 c1_i32_74
  let v108 : BitVec 32 := Scalar.addi v106 v107
  v108.toNat
def k0_dev11 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v116 : BitVec 32 := Scalar.muli v2 c2_i32_79
  let v117 : BitVec 32 := Scalar.addi c0_i32_80 v116
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_81 : BitVec 32 := 1#32
  let v118 : BitVec 32 := Scalar.muli v6 c1_i32_81
  let v119 : BitVec 32 := Scalar.addi v117 v118
  v119.toNat
def k0_dev12 (d0 : Dev nD) : Nat :=
  let c0_i32_87 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_86 : BitVec 32 := 2#32
  let v127 : BitVec 32 := Scalar.muli v2 c2_i32_86
  let v128 : BitVec 32 := Scalar.addi c0_i32_87 v127
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_88 : BitVec 32 := 1#32
  let v129 : BitVec 32 := Scalar.muli v6 c1_i32_88
  let v130 : BitVec 32 := Scalar.addi v128 v129
  v130.toNat
def k0_dev13 (d0 : Dev nD) : Nat :=
  let c0_i32_94 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_93 : BitVec 32 := 2#32
  let v138 : BitVec 32 := Scalar.muli v2 c2_i32_93
  let v139 : BitVec 32 := Scalar.addi c0_i32_94 v138
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_95 : BitVec 32 := 1#32
  let v140 : BitVec 32 := Scalar.muli v6 c1_i32_95
  let v141 : BitVec 32 := Scalar.addi v139 v140
  v141.toNat
def k0_dev14 (d0 : Dev nD) : Nat :=
  let c0_i32_101 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_100 : BitVec 32 := 2#32
  let v149 : BitVec 32 := Scalar.muli v2 c2_i32_100
  let v150 : BitVec 32 := Scalar.addi c0_i32_101 v149
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_102 : BitVec 32 := 1#32
  let v151 : BitVec 32 := Scalar.muli v6 c1_i32_102
  let v152 : BitVec 32 := Scalar.addi v150 v151
  v152.toNat
def k0_dev15 (d0 : Dev nD) : Nat :=
  let c0_i32_108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_107 : BitVec 32 := 2#32
  let v160 : BitVec 32 := Scalar.muli v2 c2_i32_107
  let v161 : BitVec 32 := Scalar.addi c0_i32_108 v160
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_109 : BitVec 32 := 1#32
  let v162 : BitVec 32 := Scalar.muli v6 c1_i32_109
  let v163 : BitVec 32 := Scalar.addi v161 v162
  v163.toNat
def k0_dev16 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v171 : BitVec 32 := Scalar.muli v2 c2_i32_114
  let v172 : BitVec 32 := Scalar.addi c0_i32_115 v171
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_116 : BitVec 32 := 1#32
  let v173 : BitVec 32 := Scalar.muli v6 c1_i32_116
  let v174 : BitVec 32 := Scalar.addi v172 v173
  v174.toNat
def k0_dev17 (d0 : Dev nD) : Nat :=
  let c0_i32_122 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_121 : BitVec 32 := 2#32
  let v182 : BitVec 32 := Scalar.muli v2 c2_i32_121
  let v183 : BitVec 32 := Scalar.addi c0_i32_122 v182
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_123 : BitVec 32 := 1#32
  let v184 : BitVec 32 := Scalar.muli v6 c1_i32_123
  let v185 : BitVec 32 := Scalar.addi v183 v184
  v185.toNat
def k0_dev18 (d0 : Dev nD) : Nat :=
  let c0_i32_129 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_128 : BitVec 32 := 2#32
  let v193 : BitVec 32 := Scalar.muli v2 c2_i32_128
  let v194 : BitVec 32 := Scalar.addi c0_i32_129 v193
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_130 : BitVec 32 := 1#32
  let v195 : BitVec 32 := Scalar.muli v6 c1_i32_130
  let v196 : BitVec 32 := Scalar.addi v194 v195
  v196.toNat
def k0_off2 (d0 : Dev nD) (c0_i32_134 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v8 : BitVec 32 := Scalar.muli v5 c4096_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v9 : BitVec 32 := Scalar.muli v2 c2048_i32
  let v10 : BitVec 32 := Scalar.addi v8 v9
  let v203 : BitVec 32 := Scalar.addi v10 c0_i32_134
  let c0_i32_136 : BitVec 32 := 0#32
  ![v203.toNat, 0]
def k0_off3 (d0 : Dev nD) (c0_i32_163 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_7 : BitVec 32 := 2048#32
  let v15 : BitVec 32 := Scalar.muli v2 c2048_i32_7
  let v245 : BitVec 32 := Scalar.addi v15 c0_i32_163
  let c0_i32_165 : BitVec 32 := 0#32
  ![v245.toNat, 0]
def k0_dev19 (d0 : Dev nD) : Nat :=
  let c0_i32_173 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_172 : BitVec 32 := 2#32
  let v254 : BitVec 32 := Scalar.muli v7 c2_i32_172
  let v255 : BitVec 32 := Scalar.addi c0_i32_173 v254
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_174 : BitVec 32 := 1#32
  let v256 : BitVec 32 := Scalar.muli v5 c1_i32_174
  let v257 : BitVec 32 := Scalar.addi v255 v256
  v257.toNat
def k0_dev20 (d0 : Dev nD) : Nat :=
  let c0_i32_218 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_217 : BitVec 32 := 2#32
  let v315 : BitVec 32 := Scalar.muli v7 c2_i32_217
  let v316 : BitVec 32 := Scalar.addi c0_i32_218 v315
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_219 : BitVec 32 := 1#32
  let v317 : BitVec 32 := Scalar.muli v5 c1_i32_219
  let v318 : BitVec 32 := Scalar.addi v316 v317
  v318.toNat
def k0_dev21 (d0 : Dev nD) : Nat :=
  let c0_i32_263 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_262 : BitVec 32 := 2#32
  let v376 : BitVec 32 := Scalar.muli v7 c2_i32_262
  let v377 : BitVec 32 := Scalar.addi c0_i32_263 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_264 : BitVec 32 := 1#32
  let v378 : BitVec 32 := Scalar.muli v5 c1_i32_264
  let v379 : BitVec 32 := Scalar.addi v377 v378
  v379.toNat
def k0_dev22 (d0 : Dev nD) : Nat :=
  let c0_i32_308 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_307 : BitVec 32 := 2#32
  let v437 : BitVec 32 := Scalar.muli v7 c2_i32_307
  let v438 : BitVec 32 := Scalar.addi c0_i32_308 v437
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_309 : BitVec 32 := 1#32
  let v439 : BitVec 32 := Scalar.muli v5 c1_i32_309
  let v440 : BitVec 32 := Scalar.addi v438 v439
  v440.toNat
def k0_dev23 (d0 : Dev nD) : Nat :=
  let c0_i32_353 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_352 : BitVec 32 := 2#32
  let v498 : BitVec 32 := Scalar.muli v7 c2_i32_352
  let v499 : BitVec 32 := Scalar.addi c0_i32_353 v498
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_354 : BitVec 32 := 1#32
  let v500 : BitVec 32 := Scalar.muli v5 c1_i32_354
  let v501 : BitVec 32 := Scalar.addi v499 v500
  v501.toNat
def k0_dev24 (d0 : Dev nD) : Nat :=
  let c0_i32_398 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_397 : BitVec 32 := 2#32
  let v559 : BitVec 32 := Scalar.muli v7 c2_i32_397
  let v560 : BitVec 32 := Scalar.addi c0_i32_398 v559
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_399 : BitVec 32 := 1#32
  let v561 : BitVec 32 := Scalar.muli v5 c1_i32_399
  let v562 : BitVec 32 := Scalar.addi v560 v561
  v562.toNat
def k0_dev25 (d0 : Dev nD) : Nat :=
  let c0_i32_443 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_442 : BitVec 32 := 2#32
  let v620 : BitVec 32 := Scalar.muli v7 c2_i32_442
  let v621 : BitVec 32 := Scalar.addi c0_i32_443 v620
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_444 : BitVec 32 := 1#32
  let v622 : BitVec 32 := Scalar.muli v5 c1_i32_444
  let v623 : BitVec 32 := Scalar.addi v621 v622
  v623.toNat
def k0_dev26 (d0 : Dev nD) : Nat :=
  let c0_i32_488 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_487 : BitVec 32 := 2#32
  let v681 : BitVec 32 := Scalar.muli v7 c2_i32_487
  let v682 : BitVec 32 := Scalar.addi c0_i32_488 v681
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_489 : BitVec 32 := 1#32
  let v683 : BitVec 32 := Scalar.muli v5 c1_i32_489
  let v684 : BitVec 32 := Scalar.addi v682 v683
  v684.toNat
def k0_dev27 (d0 : Dev nD) : Nat :=
  let c0_i32_533 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_532 : BitVec 32 := 2#32
  let v742 : BitVec 32 := Scalar.muli v7 c2_i32_532
  let v743 : BitVec 32 := Scalar.addi c0_i32_533 v742
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_534 : BitVec 32 := 1#32
  let v744 : BitVec 32 := Scalar.muli v5 c1_i32_534
  let v745 : BitVec 32 := Scalar.addi v743 v744
  v745.toNat
def k0_dev28 (d0 : Dev nD) : Nat :=
  let c0_i32_578 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_577 : BitVec 32 := 2#32
  let v803 : BitVec 32 := Scalar.muli v7 c2_i32_577
  let v804 : BitVec 32 := Scalar.addi c0_i32_578 v803
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_579 : BitVec 32 := 1#32
  let v805 : BitVec 32 := Scalar.muli v5 c1_i32_579
  let v806 : BitVec 32 := Scalar.addi v804 v805
  v806.toNat
def k0_dev29 (d0 : Dev nD) : Nat :=
  let c0_i32_623 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_622 : BitVec 32 := 2#32
  let v864 : BitVec 32 := Scalar.muli v7 c2_i32_622
  let v865 : BitVec 32 := Scalar.addi c0_i32_623 v864
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_624 : BitVec 32 := 1#32
  let v866 : BitVec 32 := Scalar.muli v5 c1_i32_624
  let v867 : BitVec 32 := Scalar.addi v865 v866
  v867.toNat
def k0_dev30 (d0 : Dev nD) : Nat :=
  let c0_i32_668 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_667 : BitVec 32 := 2#32
  let v925 : BitVec 32 := Scalar.muli v7 c2_i32_667
  let v926 : BitVec 32 := Scalar.addi c0_i32_668 v925
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_669 : BitVec 32 := 1#32
  let v927 : BitVec 32 := Scalar.muli v5 c1_i32_669
  let v928 : BitVec 32 := Scalar.addi v926 v927
  v928.toNat
def k0_dev31 (d0 : Dev nD) : Nat :=
  let c0_i32_713 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_712 : BitVec 32 := 2#32
  let v986 : BitVec 32 := Scalar.muli v7 c2_i32_712
  let v987 : BitVec 32 := Scalar.addi c0_i32_713 v986
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_714 : BitVec 32 := 1#32
  let v988 : BitVec 32 := Scalar.muli v5 c1_i32_714
  let v989 : BitVec 32 := Scalar.addi v987 v988
  v989.toNat
def k0_dev32 (d0 : Dev nD) : Nat :=
  let c0_i32_758 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_757 : BitVec 32 := 2#32
  let v1047 : BitVec 32 := Scalar.muli v7 c2_i32_757
  let v1048 : BitVec 32 := Scalar.addi c0_i32_758 v1047
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_759 : BitVec 32 := 1#32
  let v1049 : BitVec 32 := Scalar.muli v5 c1_i32_759
  let v1050 : BitVec 32 := Scalar.addi v1048 v1049
  v1050.toNat
def k0_dev33 (d0 : Dev nD) : Nat :=
  let c0_i32_803 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_802 : BitVec 32 := 2#32
  let v1108 : BitVec 32 := Scalar.muli v7 c2_i32_802
  let v1109 : BitVec 32 := Scalar.addi c0_i32_803 v1108
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_804 : BitVec 32 := 1#32
  let v1110 : BitVec 32 := Scalar.muli v5 c1_i32_804
  let v1111 : BitVec 32 := Scalar.addi v1109 v1110
  v1111.toNat
def k0_dev34 (d0 : Dev nD) : Nat :=
  let c0_i32_848 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_847 : BitVec 32 := 2#32
  let v1169 : BitVec 32 := Scalar.muli v7 c2_i32_847
  let v1170 : BitVec 32 := Scalar.addi c0_i32_848 v1169
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_849 : BitVec 32 := 1#32
  let v1171 : BitVec 32 := Scalar.muli v5 c1_i32_849
  let v1172 : BitVec 32 := Scalar.addi v1170 v1171
  v1172.toNat
def k0_off4 (d0 : Dev nD) (c0_i32_853 : BitVec 32) : Fin 2 → Nat :=
  let c1_i32_8 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v16 : BitVec 32 := Scalar.subi c1_i32_8 v2
  let c2048_i32_9 : BitVec 32 := 2048#32
  let v17 : BitVec 32 := Scalar.muli v16 c2048_i32_9
  let v1180 : BitVec 32 := Scalar.addi v17 c0_i32_853
  let c0_i32_859 : BitVec 32 := 0#32
  ![v1180.toNat, 0]
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x4096 : Shape := ⟨3, ![2, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Program.lean ====
/-
  The kernel's body as a short structured program: the entry handshake, then four sweeps over the sixteen row
  chunks (the sends to the `y` peer, the reduce-and-normalise step, the waits for the `x` peer's rows, the waits
  for this device's own sends). The unrolled body is that program by unfolding.
-/
module

public import proofs.«01_k».proof.Proof.Gen.KernelIdeal.Frame
public import proofs.«01_k».proof.Proof.Gen.KernelIdeal.Skeleton

@[expose] public section

noncomputable section

namespace Cert.KernelIdeal.Own

open Idealize.ShloMosaic Idealize.ShloMosaic.TcCoe
open Idealize.SL.Sem
open Cert.KernelIdeal.Gen

variable {F : FTy → Type} [FloatOps F]

/-- What the body's operations are drawn from. -/
abbrev Eff (F : FTy → Type) := TpuEff nD τ sig (Elt F) Λ₀ .tc

/-! ## The buffers, the chunk slices and the semaphores the body names -/

abbrev pRef : Memref sig .tc .hbm S8192x4096 .f32 := Memref.whole main_v1
abbrev gRef : Memref sig .tc .vmem S1x4096 .f32 := Memref.whole cc0_stg0_0
abbrev outRef : Memref sig .tc .hbm S4096x4096 .f32 := Memref.whole main_v3_0
abbrev recvRef : Memref sig .tc .hbm S2048x4096 .f32 := Memref.whole main_v3_1
abbrev aRef : Memref sig .tc .vmem S128x4096 .f32 := Memref.whole cc0_scratch0
abbrev bRef : Memref sig .tc .vmem S128x4096 .f32 := Memref.whole cc0_scratch1
abbrev oRef : Memref sig .tc .vmem S128x4096 .f32 := Memref.whole cc0_scratch2

theorem recv_inb (r : Fin 16) : ∀ a, (![128 * r.val, 0] : Fin 2 → ℕ) a + S128x4096.size a ≤ S2048x4096.size a := by
  revert r; decide

theorem sem3_inb (r : Fin 3) : ∀ a, (![r.val] : Fin 1 → ℕ) a + S1.size a ≤ S3.size a := by
  revert r; decide

theorem sem16_inb (r : Fin 16) : ∀ a, (![r.val] : Fin 1 → ℕ) a + S1.size a ≤ S16.size a := by
  revert r; decide

/-- Chunk `r` of the rows of `p` that this device sends to its `y` peer. -/
abbrev pSend (d : Dev nD) (r : Fin 16) : Memref sig .tc .hbm S128x4096 .f32 :=
  pRef.slice (Rect.unit (s := S8192x4096) (k0_off1 d (BitVec.ofNat 32 (128 * r.val))) S128x4096.size (k0_off1_inb d r)) (fun _ => rfl)
/-- Chunk `r` of the rows of `p` that this device reduces itself. -/
abbrev pMine (d : Dev nD) (r : Fin 16) : Memref sig .tc .hbm S128x4096 .f32 :=
  pRef.slice (Rect.unit (s := S8192x4096) (k0_off2 d (BitVec.ofNat 32 (128 * r.val))) S128x4096.size (k0_off2_inb d r)) (fun _ => rfl)
/-- Chunk `r` of the receive buffer. -/
abbrev recvChunk (r : Fin 16) : Memref sig .tc .hbm S128x4096 .f32 :=
  recvRef.slice (Rect.unit (s := S2048x4096) ![128 * r.val, 0] S128x4096.size (recv_inb r)) (fun _ => rfl)
/-- Chunk `r` of the result rows this device computes. -/
abbrev outMine (d : Dev nD) (r : Fin 16) : Memref sig .tc .hbm S128x4096 .f32 :=
  outRef.slice (Rect.unit (s := S4096x4096) (k0_off3 d (BitVec.ofNat 32 (128 * r.val))) S128x4096.size (k0_off3_inb d r)) (fun _ => rfl)
/-- Chunk `r` of the result rows the `x` peer computes. -/
abbrev outTheirs (d : Dev nD) (r : Fin 16) : Memref sig .tc .hbm S128x4096 .f32 :=
  outRef.slice (Rect.unit (s := S4096x4096) (k0_off4 d (BitVec.ofNat 32 (128 * r.val))) S128x4096.size (k0_off4_inb d r)) (fun _ => rfl)

abbrev localSem (r : Fin 3) : DmaSem sig := ((cc0_scratch3.slice (Rect.unit (s := S3) ![r.val] S1.size (sem3_inb r))).squeeze S_ squeezes_S1_S_).sem
abbrev ySendSem (r : Fin 16) : DmaSem sig := ((cc0_scratch4.slice (Rect.unit (s := S16) ![r.val] S1.size (sem16_inb r))).squeeze S_ squeezes_S1_S_).sem
abbrev yRecvSem (r : Fin 16) : DmaSem sig := ((cc0_scratch5.slice (Rect.unit (s := S16) ![r.val] S1.size (sem16_inb r))).squeeze S_ squeezes_S1_S_).sem
abbrev xSendSem (r : Fin 16) : DmaSem sig := ((cc0_scratch6.slice (Rect.unit (s := S16) ![r.val] S1.size (sem16_inb r))).squeeze S_ squeezes_S1_S_).sem
abbrev xRecvSem (r : Fin 16) : DmaSem sig := ((cc0_scratch7.slice (Rect.unit (s := S16) ![r.val] S1.size (sem16_inb r))).squeeze S_ squeezes_S1_S_).sem

/-- The barrier semaphore. -/
abbrev barSem : Sem sig := (SemArray.scalar (sig.barrier 0 rfl) : Sems sig S_).sem

/-- The device across the `y` axis, and the one across the `x` axis, as the body computes them. -/
abbrev yPeer (d : Dev nD) : Dev nD := ⟨k0_dev1 d, k0_dev1_lt d⟩
abbrev xPeer (d : Dev nD) : Dev nD := ⟨k0_dev2 d, k0_dev2_lt d⟩

/-! ## The steps -/

/-- Send chunk `r` of the other half's rows to the `y` peer. -/
def sendStep (d : Dev nD) (r : Fin 16) : Prog (Eff F) PUnit :=
  .op (.enqueueDma (pSend d r) (.remote (Dev.tc (yPeer d)) (recvChunk r) (.dma (ySendSem r))) (.dma (yRecvSem r))
    (View.wordExact_bits rfl) (View.wordExact_bits rfl) ⟨⟨rfl, Or.inl rfl⟩, trivial⟩) .ret

/-- Chunk `r`: fetch both summands, add, normalise and scale, store the rows, pass them on to the `x` peer. -/
def chunkStep (d : Dev nD) (r : Fin 16) : Prog (Eff F) PUnit :=
  .op (.enqueueDma (pMine d r) (.here aRef) (.dma (localSem 0)) (View.wordExact_bits rfl) (Memref.isWhole_whole _).wordExact ⟨Or.inl rfl, trivial⟩) fun _ =>
  .op (.waitDma2 (yRecvSem r) (pSend d r) (recvChunk r) (View.wordExact_bits rfl) (View.wordExact_bits rfl)) fun _ =>
  .op (.enqueueDma (recvChunk r) (.here bRef) (.dma (localSem 1)) (View.wordExact_bits rfl) (Memref.isWhole_whole _).wordExact ⟨Or.inl rfl, trivial⟩) fun _ =>
  .op (.waitDma2 (localSem 0) (pMine d r) aRef (View.wordExact_bits rfl) (Memref.isWhole_whole _).wordExact) fun _ =>
  .op (.waitDma2 (localSem 1) (recvChunk r) bRef (View.wordExact_bits rfl) (Memref.isWhole_whole _).wordExact) fun _ =>
  .op (.load aRef (Rect.unit (s := S128x4096) ![0, 0] S128x4096.size inb_S128x4096_S128x4096_0_0).toLoadRect (View.loadsAt_vmem h_S128x4096)) fun (a : Vec F S128x4096 .f32) =>
  .op (.load bRef (Rect.unit (s := S128x4096) ![0, 0] S128x4096.size inb_S128x4096_S128x4096_0_0).toLoadRect (View.loadsAt_vmem h_S128x4096)) fun (b : Vec F S128x4096 .f32) =>
  .op (.load gRef (Rect.unit (s := S1x4096) ![0, 0] S1x4096.size inb_S1x4096_S1x4096_0_0).toLoadRect (View.loadsAt_vmem h_S1x4096)) fun (g : Vec F S1x4096 .f32) =>
  .op (.load oRef (Rect.unit (s := S128x4096) ![0, 0] S128x4096.size inb_S128x4096_S128x4096_0_0).toLoadRect (View.loadsAt_vmem h_S128x4096)) fun (_ : Vec F S128x4096 .f32) =>
  .op (.store oRef (Rect.unit (s := S128x4096) ![0, 0] S128x4096.size inb_S128x4096_S128x4096_0_0) (k0_pay1 a b g) Finset.univ (View.stores_vmem_bits_univ h_S128x4096 rfl) (.inl rfl)) fun _ =>
  .op (.enqueueDma oRef (.here (outMine d r)) (.dma (localSem 2)) (Memref.isWhole_whole _).wordExact (View.wordExact_bits rfl) ⟨Or.inl rfl, trivial⟩) fun _ =>
  .op (.waitDma2 (localSem 2) oRef (outMine d r) (Memref.isWhole_whole _).wordExact (View.wordExact_bits rfl)) fun _ =>
  .op (.enqueueDma (outMine d r) (.remote (Dev.tc (xPeer d)) (outMine d r) (.dma (xSendSem r))) (.dma (xRecvSem r))
    (View.wordExact_bits rfl) (View.wordExact_bits rfl) ⟨⟨rfl, Or.inl rfl⟩, trivial⟩) .ret

/-- Wait for chunk `r` of the `x` peer's rows. -/
def gatherStep (d : Dev nD) (r : Fin 16) : Prog (Eff F) PUnit :=
  .op (.waitDma2 (xRecvSem r) (outMine d r) (outTheirs d r) (View.wordExact_bits rfl) (View.wordExact_bits rfl)) .ret

/-- Wait until this device's two sends of chunk `r` have left. -/
def drainStep (d : Dev nD) (r : Fin 16) : Prog (Eff F) PUnit :=
  .op (.waitDma2 (ySendSem r) (recvChunk r) (pSend d r) (View.wordExact_bits rfl) (View.wordExact_bits rfl)) fun _ =>
  .op (.waitDma2 (xSendSem r) (outMine d r) (outMine d r) (View.wordExact_bits rfl) (View.wordExact_bits rfl)) .ret

/-- The handshake: a unit to each peer's barrier, then the two units due here. -/
def meetStep (d : Dev nD) : Prog (Eff F) PUnit :=
  .op (.semSignal (Dev.tc (yPeer d)) barSem ((1 : ℕ) : ℤ)) fun _ =>
  .op (.semSignal (Dev.tc (xPeer d)) barSem ((1 : ℕ) : ℤ)) fun _ =>
  .op (.semWait barSem ((2 : ℕ) : ℤ)) .ret

/-- A step for each chunk of a list, in order. -/
def sweep (f : Fin 16 → Prog (Eff F) PUnit) : List (Fin 16) → Prog (Eff F) PUnit
  | [] => .ret ⟨⟩
  | r :: rs => (f r).bind fun _ => sweep f rs

/-- The sixteen chunks, in the body's order. -/
def chunks : List (Fin 16) := [0, 1, 2, 3, 4, 5, 6, 7, 8, 9, 10, 11, 12, 13, 14, 15]

/-- The body. -/
def body : Prog (Eff F) PUnit :=
  (Prog.lift .deviceId : Prog (Eff F) (Dev nD)).bind fun d =>
    (meetStep d).bind fun _ =>
    (sweep (sendStep d) chunks).bind fun _ =>
    (sweep (chunkStep d) chunks).bind fun _ =>
    (sweep (gatherStep d) chunks).bind fun _ =>
    sweep (drainStep d) chunks

set_option maxRecDepth 65536 in
/-- The unrolled body is the structured one. -/
theorem body_eq :
    cc0_body (F := F) pRef (Memref.isWhole_whole _) gRef (Memref.isWhole_whole _) outRef (Memref.isWhole_whole _) recvRef (Memref.isWhole_whole _)
      aRef (Memref.isWhole_whole _) bRef (Memref.isWhole_whole _) oRef (Memref.isWhole_whole _) cc0_scratch3 cc0_scratch4 cc0_scratch5 cc0_scratch6 cc0_scratch7
      = body (F := F) := by
  chain_rfl

end Cert.KernelIdeal.Own

end
-- ==== Proof.KernelIdeal.Geometry.lean ====
/-
  Where the chunk slices lie: which rows of a buffer each one takes, that they are disjoint, and that they fill the
  result and the receive buffer.
-/
module

public import proofs.«01_k».proof.Proof.KernelIdeal.Program

@[expose] public section

noncomputable section

namespace Cert.KernelIdeal.Own

open Idealize.ShloMosaic Idealize.ShloMosaic.TcCoe
open Cert.KernelIdeal.Gen

/-! ## The peers -/

theorem yPeer_val (d : Dev nD) : (yPeer d).val = (2 * (d.val / 2) + 1) - d.val % 2 := k0_dev1_eq d
theorem xPeer_val (d : Dev nD) : (xPeer d).val = (2 + d.val % 2) - 2 * (d.val / 2) := by revert d; decide +kernel
theorem yPeer_yPeer (d : Dev nD) : yPeer (yPeer d) = d := by revert d; decide +kernel
theorem xPeer_xPeer (d : Dev nD) : xPeer (xPeer d) = d := by revert d; decide +kernel
theorem xPeer_ne_yPeer (d : Dev nD) : xPeer d ≠ yPeer d := by revert d; decide +kernel

/-- Crossing the `y` axis, and crossing the `x` axis, as permutations of the devices. -/
def yTurn : Dev nD ≃ Dev nD := ⟨yPeer, yPeer, yPeer_yPeer, yPeer_yPeer⟩
def xTurn : Dev nD ≃ Dev nD := ⟨xPeer, xPeer, xPeer_xPeer, xPeer_xPeer⟩

/-! ## The first row of each chunk -/

/-- The first row of the chunk that device `d` sends to its `y` peer. -/
def sendRow (d : Dev nD) (r : Fin 16) : ℕ := (2048 * (d.val / 2) + 128 * r.val + 4096) - 4096 * (d.val % 2)
/-- The first row of the chunk that device `d` reduces itself. -/
def mineRow (d : Dev nD) (r : Fin 16) : ℕ := 4096 * (d.val % 2) + 2048 * (d.val / 2) + 128 * r.val
/-- The first row, in the result, of the chunk that device `d` computes. -/
def outRow (d : Dev nD) (r : Fin 16) : ℕ := 2048 * (d.val / 2) + 128 * r.val

theorem mem_pSend (d : Dev nD) (r : Fin 16) (i : S8192x4096.Idx) :
    i ∈ (pSend d r).view.set ↔ sendRow d r ≤ (i 0).val ∧ (i 0).val < sendRow d r + 128 := by
  have h1 : (i 1).val < 4096 := (i 1).isLt
  rw [show (pSend d r).view.set = (Rect.unit (s := S8192x4096) (k0_off1 d (BitVec.ofNat 32 (128 * r.val))) S128x4096.size (k0_off1_inb d r)).set
    from View.set_slice_whole _ _, Rect.mem_set_unit, Fin.forall_fin_two, k0_off1_eq]
  show ((sendRow d r ≤ (i 0).val ∧ (i 0).val < sendRow d r + 128) ∧ (0 ≤ (i 1).val ∧ (i 1).val < 0 + 4096)) ↔ _
  omega

theorem mem_pMine (d : Dev nD) (r : Fin 16) (i : S8192x4096.Idx) :
    i ∈ (pMine d r).view.set ↔ mineRow d r ≤ (i 0).val ∧ (i 0).val < mineRow d r + 128 := by
  have h1 : (i 1).val < 4096 := (i 1).isLt
  rw [show (pMine d r).view.set = (Rect.unit (s := S8192x4096) (k0_off2 d (BitVec.ofNat 32 (128 * r.val))) S128x4096.size (k0_off2_inb d r)).set
    from View.set_slice_whole _ _, Rect.mem_set_unit, Fin.forall_fin_two, k0_off2_eq]
  show ((mineRow d r ≤ (i 0).val ∧ (i 0).val < mineRow d r + 128) ∧ (0 ≤ (i 1).val ∧ (i 1).val < 0 + 4096)) ↔ _
  omega

theorem mem_recvChunk (r : Fin 16) (i : S2048x4096.Idx) :
    i ∈ (recvChunk r).view.set ↔ 128 * r.val ≤ (i 0).val ∧ (i 0).val < 128 * r.val + 128 := by
  have h1 : (i 1).val < 4096 := (i 1).isLt
  rw [show (recvChunk r).view.set = (Rect.unit (s := S2048x4096) ![128 * r.val, 0] S128x4096.size (recv_inb r)).set
    from View.set_slice_whole _ _, Rect.mem_set_unit, Fin.forall_fin_two]
  show ((128 * r.val ≤ (i 0).val ∧ (i 0).val < 128 * r.val + 128) ∧ (0 ≤ (i 1).val ∧ (i 1).val < 0 + 4096)) ↔ _
  omega

theorem mem_outMine (d : Dev nD) (r : Fin 16) (i : S4096x4096.Idx) :
    i ∈ (outMine d r).view.set ↔ outRow d r ≤ (i 0).val ∧ (i 0).val < outRow d r + 128 := by
  have h1 : (i 1).val < 4096 := (i 1).isLt
  rw [show (outMine d r).view.set = (Rect.unit (s := S4096x4096) (k0_off3 d (BitVec.ofNat 32 (128 * r.val))) S128x4096.size (k0_off3_inb d r)).set
    from View.set_slice_whole _ _, Rect.mem_set_unit, Fin.forall_fin_two, k0_off3_eq]
  show ((outRow d r ≤ (i 0).val ∧ (i 0).val < outRow d r + 128) ∧ (0 ≤ (i 1).val ∧ (i 1).val < 0 + 4096)) ↔ _
  omega

/-- The `x` peer's chunks lie in the other half of the result's rows. -/
theorem outRow_xPeer (d : Dev nD) (r : Fin 16) : outRow (xPeer d) r = 2048 * (1 - d.val / 2) + 128 * r.val := by
  revert d r; decide +kernel
/-- The peers' rows of `p` are the ones sent to them. -/
theorem sendRow_yPeer (d : Dev nD) (r : Fin 16) : sendRow (yPeer d) r = mineRow d r := by revert d r; decide +kernel

/-! ## Families of chunks -/

/-- The first row of each chunk of `p` in use: the ones sent, then the ones reduced here. -/
def pRow (d : Dev nD) (b : Fin 2 × Fin 16) : ℕ := if b.1 = 0 then sendRow d b.2 else mineRow d b.2
/-- The first row of each chunk of the result: the ones computed here, then the `x` peer's. -/
def oRow (d : Dev nD) (b : Fin 2 × Fin 16) : ℕ := if b.1 = 0 then outRow d b.2 else outRow (xPeer d) b.2

/-- The chunks of `p`: those sent, then those reduced here. -/
def pFam (d : Dev nD) (b : Fin 2 × Fin 16) : Finset S8192x4096.Idx := if b.1 = 0 then (pSend d b.2).view.set else (pMine d b.2).view.set
/-- The chunks of the result: those computed here, then those the `x` peer computes. -/
def outFam (d : Dev nD) (b : Fin 2 × Fin 16) : Finset S4096x4096.Idx :=
  if b.1 = 0 then (outMine d b.2).view.set else (outMine (xPeer d) b.2).view.set
/-- The chunks of the receive buffer. -/
def recvFam (r : Fin 16) : Finset S2048x4096.Idx := (recvChunk r).view.set

theorem mem_pFam (d : Dev nD) (b : Fin 2 × Fin 16) (i : S8192x4096.Idx) :
    i ∈ pFam d b ↔ pRow d b ≤ (i 0).val ∧ (i 0).val < pRow d b + 128 := by
  unfold pFam pRow
  split
  · exact mem_pSend d b.2 i
  · exact mem_pMine d b.2 i

theorem mem_outFam (d : Dev nD) (b : Fin 2 × Fin 16) (i : S4096x4096.Idx) :
    i ∈ outFam d b ↔ oRow d b ≤ (i 0).val ∧ (i 0).val < oRow d b + 128 := by
  unfold outFam oRow
  split
  · exact mem_outMine d b.2 i
  · exact mem_outMine (xPeer d) b.2 i

theorem mem_recvFam (r : Fin 16) (i : S2048x4096.Idx) : i ∈ recvFam r ↔ 128 * r.val ≤ (i 0).val ∧ (i 0).val < 128 * r.val + 128 :=
  mem_recvChunk r i

/-- Distinct chunks start at least a chunk apart. -/
theorem pRow_apart (d : Dev nD) (b b' : Fin 2 × Fin 16) (h : b ≠ b') : pRow d b + 128 ≤ pRow d b' ∨ pRow d b' + 128 ≤ pRow d b := by
  revert d b b'; decide +kernel
theorem oRow_apart (d : Dev nD) (b b' : Fin 2 × Fin 16) (h : b ≠ b') : oRow d b + 128 ≤ oRow d b' ∨ oRow d b' + 128 ≤ oRow d b := by
  revert d b b'; decide +kernel

theorem pFam_disjoint (d : Dev nD) (b b' : Fin 2 × Fin 16) (h : b ≠ b') : Disjoint (pFam d b) (pFam d b') := by
  rw [Finset.disjoint_left]
  intro i hi hi'
  rw [mem_pFam] at hi hi'
  have := pRow_apart d b b' h
  omega

theorem outFam_disjoint (d : Dev nD) (b b' : Fin 2 × Fin 16) (h : b ≠ b') : Disjoint (outFam d b) (outFam d b') := by
  rw [Finset.disjoint_left]
  intro i hi hi'
  rw [mem_outFam] at hi hi'
  have := oRow_apart d b b' h
  omega

theorem recvFam_disjoint (r r' : Fin 16) (h : r ≠ r') : Disjoint (recvFam r) (recvFam r') := by
  rw [Finset.disjoint_left]
  intro i hi hi'
  have hne : r.val ≠ r'.val := fun e => h (Fin.ext e)
  rw [mem_recvFam] at hi hi'
  omega

/-- Every row of the result lies in a chunk. -/
theorem oRow_hits (d : Dev nD) (k : Fin 32) : ∃ b, oRow d b = 128 * k.val := by revert d k; decide +kernel

theorem outFam_cover (d : Dev nD) : Finset.univ.biUnion (outFam d) = Finset.univ := by
  refine Finset.eq_univ_of_forall fun i => ?_
  have h0 : (i 0).val < 4096 := (i 0).isLt
  obtain ⟨b, hb⟩ := oRow_hits d ⟨(i 0).val / 128, by omega⟩
  refine Finset.mem_biUnion.mpr ⟨b, Finset.mem_univ _, (mem_outFam d b i).mpr ?_⟩
  rw [hb]
  show 128 * ((i 0).val / 128) ≤ (i 0).val ∧ (i 0).val < 128 * ((i 0).val / 128) + 128
  omega

theorem recvFam_cover : Finset.univ.biUnion recvFam = Finset.univ := by
  refine Finset.eq_univ_of_forall fun i => ?_
  have h0 : (i 0).val < 2048 := (i 0).isLt
  refine Finset.mem_biUnion.mpr ⟨⟨(i 0).val / 128, by omega⟩, Finset.mem_univ _, (mem_recvFam _ i).mpr ?_⟩
  show 128 * ((i 0).val / 128) ≤ (i 0).val ∧ (i 0).val < 128 * ((i 0).val / 128) + 128
  omega

end Cert.KernelIdeal.Own

end
-- ==== Proof.KernelIdeal.Contents.lean ====
/-
  What the buffers hold: the chunks of `p` and of gamma as the region finds them, the rows one chunk step computes,
  and the result and the receive buffer assembled from them.
-/
module

public import proofs.«01_k».proof.Proof.KernelIdeal.Geometry

@[expose] public section

noncomputable section

namespace Cert.KernelIdeal.Own

open Idealize.ShloMosaic Idealize.ShloMosaic.TcCoe
open Cert.KernelIdeal.Gen

variable {F : FTy → Type} [FloatOps F]
variable (m : (ℓ : Loc nD τ sig) → Buf (Elt F) ℓ)

/-- Row `a`, column `b` of a chunk. -/
def inChunk (a : ℕ) (b : Fin 4096) : S128x4096.Idx
  | 0 => (⟨a % 128, Nat.mod_lt _ (by decide)⟩ : Fin 128)
  | 1 => b

theorem inChunk_eta (x : S128x4096.Idx) (a : ℕ) (b : Fin 4096) (h0 : a % 128 = (x 0).val) (h1 : b.val = (x 1).val) : inChunk a b = x := by
  funext k
  fin_cases k
  · exact Fin.ext h0
  · exact Fin.ext h1

/-- The chunk of `p` that device `e` sends to its `y` peer. -/
def sendVal (e : Dev nD) (r : Fin 16) : Vec F S128x4096 .f32 := (pSend e r).view.read (Elt F) (V m e main_v1)
/-- The chunk of `p` that device `e` reduces itself. -/
def mineVal (e : Dev nD) (r : Fin 16) : Vec F S128x4096 .f32 := (pMine e r).view.read (Elt F) (V m e main_v1)
/-- Gamma, as device `e`'s staging buffer holds it. -/
def gVec (e : Dev nD) : Vec F S1x4096 .f32 := iblk m e 0 t0_0

/-- The rows device `e` computes for chunk `r`. -/
def computed (e : Dev nD) (r : Fin 16) : Vec F S128x4096 .f32 := k0_pay1 (mineVal m e r) (sendVal m (yPeer e) r) (gVec m e)

/-- The receive buffer of device `d`, every chunk landed. -/
def recvFinal (d : Dev nD) : Vec F S2048x4096 .f32 := fun i =>
  sendVal m (yPeer d) ⟨(i 0).val / 128, by have h : (i 0).val < 2048 := (i 0).isLt; omega⟩ (inChunk (i 0).val (i 1))

/-- The device of `d`'s column that computes row `n` of the result. -/
def worker (d : Dev nD) (n : ℕ) (h : n < 4096) : Dev nD := ⟨2 * (n / 2048) + d.val % 2, by show _ < 4; omega⟩

/-- The result on device `d`, every chunk there. -/
def outFinal (d : Dev nD) : Vec F S4096x4096 .f32 := fun i =>
  computed m (worker d (i 0).val (i 0).isLt) ⟨(i 0).val % 2048 / 128, by omega⟩ (inChunk (i 0).val (i 1))

theorem outFinal_xPeer (d : Dev nD) : outFinal m (xPeer d) = outFinal m d := by
  funext i
  have h : worker (xPeer d) (i 0).val (i 0).isLt = worker d (i 0).val (i 0).isLt :=
    Fin.ext (congrArg (2 * ((i 0).val / 2048) + ·) (by
      have := xPeer_val d; have hd : d.val < 4 := d.isLt; omega))
  unfold outFinal
  rw [h]

/-! ## Where an element of a chunk lies in its buffer -/

theorem emb_recv0 (r : Fin 16) (x : S128x4096.Idx) : ((recvChunk r).view.emb x 0).val = 128 * r.val + (x 0).val := by
  show 128 * r.val + 1 * (x 0).val = _; omega
theorem emb_recv1 (r : Fin 16) (x : S128x4096.Idx) : ((recvChunk r).view.emb x 1).val = (x 1).val := by
  show 0 + 1 * (x 1).val = _; omega
theorem emb_out0 (d : Dev nD) (r : Fin 16) (x : S128x4096.Idx) : ((outMine d r).view.emb x 0).val = outRow d r + (x 0).val := by
  show k0_off3 d (BitVec.ofNat 32 (128 * r.val)) 0 + 1 * (x 0).val = _
  rw [k0_off3_eq]; show outRow d r + 1 * (x 0).val = _; omega
theorem emb_out1 (d : Dev nD) (r : Fin 16) (x : S128x4096.Idx) : ((outMine d r).view.emb x 1).val = (x 1).val := by
  show k0_off3 d (BitVec.ofNat 32 (128 * r.val)) 1 + 1 * (x 1).val = _
  rw [k0_off3_eq]; show 0 + 1 * (x 1).val = _; omega

/-- The receive buffer agrees with a chunk just landed, on the chunk. -/
theorem recv_landed (d : Dev nD) (r : Fin 16) (f : S2048x4096.Idx → Elt F .f32) :
    ∀ i ∈ (recvChunk r).view.set, (recvChunk r).view.write (Elt F) f (sendVal m (yPeer d) r) Finset.univ i = recvFinal m d i := by
  intro i hi
  obtain ⟨x, -, rfl⟩ := Finset.mem_map.mp hi
  have hx : (x 0).val < 128 := (x 0).isLt
  rw [View.write_emb_of_mem _ _ (Finset.mem_univ x)]
  have h0 := emb_recv0 r x
  have h1 := emb_recv1 r x
  have hr : (⟨((recvChunk r).view.emb x 0).val / 128, by rw [h0]; have := r.isLt; omega⟩ : Fin 16) = r :=
    Fin.ext (by show ((recvChunk r).view.emb x 0).val / 128 = r.val; rw [h0]; omega)
  show sendVal m (yPeer d) r x = sendVal m (yPeer d) _ (inChunk _ _)
  rw [hr, inChunk_eta x _ _ (by rw [h0]; omega) h1]

/-- The result agrees with a chunk just computed, on the chunk. -/
theorem out_landed (d : Dev nD) (r : Fin 16) (f : S4096x4096.Idx → Elt F .f32) :
    ∀ i ∈ (outMine d r).view.set, (outMine d r).view.write (Elt F) f (computed m d r) Finset.univ i = outFinal m d i := by
  intro i hi
  obtain ⟨x, -, rfl⟩ := Finset.mem_map.mp hi
  have hx : (x 0).val < 128 := (x 0).isLt
  have hd : d.val < 4 := d.isLt
  rw [View.write_emb_of_mem _ _ (Finset.mem_univ x)]
  have h0 := emb_out0 d r x
  have h1 := emb_out1 d r x
  unfold outRow at h0
  have hw : worker d ((outMine d r).view.emb x 0).val ((outMine d r).view.emb x 0).isLt = d :=
    Fin.ext (by show 2 * (((outMine d r).view.emb x 0).val / 2048) + d.val % 2 = d.val; rw [h0]; omega)
  have hr : (⟨((outMine d r).view.emb x 0).val % 2048 / 128, by omega⟩ : Fin 16) = r :=
    Fin.ext (by show ((outMine d r).view.emb x 0).val % 2048 / 128 = r.val; rw [h0]; omega)
  show computed m d r x = computed m (worker d _ _) _ (inChunk _ _)
  rw [hw, hr, inChunk_eta x _ _ (by rw [h0]; omega) h1]

/-- What a chunk of the receive buffer reads as, once landed. -/
theorem recv_read (d : Dev nD) (r : Fin 16) : (recvChunk r).view.read (Elt F) (recvFinal m d) = sendVal m (yPeer d) r := by
  rw [← View.read_write_univ (v := (recvChunk r).view) (recvFinal m d) (sendVal m (yPeer d) r)]
  exact View.read_congr fun i hi => (recv_landed m d r _ i hi).symm

/-- What a chunk of the result reads as, once computed. -/
theorem out_read (d : Dev nD) (r : Fin 16) : (outMine d r).view.read (Elt F) (outFinal m d) = computed m d r := by
  rw [← View.read_write_univ (v := (outMine d r).view) (outFinal m d) (computed m d r)]
  exact View.read_congr fun i hi => (out_landed m d r _ i hi).symm

end Cert.KernelIdeal.Own

end
-- ==== Proof.KernelIdeal.Protocol.lean ====
/-
  The protocol the four devices follow: the semaphore cells, what each unit put on a cell hands over, what each device
  owes when it starts, and the order in which waits may happen.

  A barrier cell takes one unit from each of two peers. The unit from the `y` peer hands over that peer's receive
  buffer, chunk by chunk; the unit from the `x` peer hands over that peer's copy of the rows computed here. A copy to
  the `y` peer hands over one landed chunk of its receive buffer, a copy to the `x` peer one chunk of its result.
-/
module

public import proofs.«01_k».proof.Proof.KernelIdeal.Contents

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra: the pipeline's copy, the protocol's, the local copies' counters -/

abbrev UT : Type := URounds (GSem nD τ sig) Bool
abbrev UU : Type := UR sig nD τ × (UT × Counters)

local notation "𝕄" => MT nD τ sig Unit (Elt F) ℕ UU ℕ

abbrev EP : Emb (UR sig nD τ) (MT nD τ sig Unit (Elt F) ℕ UU ℕ) := embL
/-- The protocol's part: the left half of the right factor. -/
def ER : Emb UT (MT nD τ sig Unit (Elt F) ℕ UU ℕ) :=
  ((Emb.inl : Emb UT (UT × Counters)).trans (Emb.inr : Emb (UT × Counters) UU)).trans
    (uEmb (nD := nD) (sig := sig) (Ix := Unit) (Val := Elt F) (Name := ℕ) (U := UU) (Lvl := ℕ)).toEmb
instance ER_landsIn : (ER : Emb UT 𝕄).LandsIn (upEmb : UEmb _ 𝕄) := by unfold ER; infer_instance

variable (m : (ℓ : Loc nD τ sig) → Buf (Elt F) ℓ)

/-! ## The cells -/

/-- The protocol's scoped semaphores, by kind (sent to `y`, received from `y`, sent to `x`, received from `x`) and chunk. -/
def tsem (k : Fin 4) (r : Fin 16) : DmaSem sig := ⟨4 + 16 * k.val + r.val, by show _ < 68; omega⟩

theorem ySendSem_eq (r : Fin 16) : ySendSem r = tsem 0 r := by revert r; decide
theorem yRecvSem_eq (r : Fin 16) : yRecvSem r = tsem 1 r := by revert r; decide
theorem xSendSem_eq (r : Fin 16) : xSendSem r = tsem 2 r := by revert r; decide
theorem xRecvSem_eq (r : Fin 16) : xRecvSem r = tsem 3 r := by revert r; decide

abbrev barCell (d : Dev nD) : GSem nD τ sig := ((d : Thread nD τ), .reg barSem)
abbrev cell (k : Fin 4) (r : Fin 16) (d : Dev nD) : GSem nD τ sig := ((d : Thread nD τ), .dma (tsem k r))
abbrev ySendCell (r : Fin 16) (d : Dev nD) : GSem nD τ sig := ((d : Thread nD τ), .dma (ySendSem r))
abbrev yRecvCell (r : Fin 16) (d : Dev nD) : GSem nD τ sig := ((d : Thread nD τ), .dma (yRecvSem r))
abbrev xSendCell (r : Fin 16) (d : Dev nD) : GSem nD τ sig := ((d : Thread nD τ), .dma (xSendSem r))
abbrev xRecvCell (r : Fin 16) (d : Dev nD) : GSem nD τ sig := ((d : Thread nD τ), .dma (xRecvSem r))
abbrev localCell (j : Fin 3) (d : Dev nD) : GSem nD τ sig := ((d : Thread nD τ), .dma (localSem j))

theorem ySendCell_eq (r : Fin 16) (d : Dev nD) : ySendCell r d = cell 0 r d := by unfold ySendCell; rw [ySendSem_eq]
theorem yRecvCell_eq (r : Fin 16) (d : Dev nD) : yRecvCell r d = cell 1 r d := by unfold yRecvCell; rw [yRecvSem_eq]
theorem xSendCell_eq (r : Fin 16) (d : Dev nD) : xSendCell r d = cell 2 r d := by unfold xSendCell; rw [xSendSem_eq]
theorem xRecvCell_eq (r : Fin 16) (d : Dev nD) : xRecvCell r d = cell 3 r d := by unfold xRecvCell; rw [xRecvSem_eq]

/-- The credit of one chunk's copy. -/
@[irreducible] def N : ℕ := (aRef : Memref sig .tc .vmem S128x4096 .f32).view.dmaCredit
theorem N_eq : (aRef : Memref sig .tc .vmem S128x4096 .f32).view.dmaCredit = N := by unfold N; rfl
theorem N_pos : 0 < N := by rw [← N_eq]; exact View.dmaCredit_pos _ (by decide)

/-! ## What is held of each buffer -/

/-- A chunk of `p` that is sent. -/
def sendPts (d : Dev nD) (r : Fin 16) : sProp 𝕄 :=
  (pSend d r).view.loc (d : Thread nD τ) ↦[(pSend d r).view.set]{fullShare} V m d main_v1
/-- A chunk of `p` that is reduced here. -/
def minePts (d : Dev nD) (r : Fin 16) : sProp 𝕄 :=
  (pMine d r).view.loc (d : Thread nD τ) ↦[(pMine d r).view.set]{fullShare} V m d main_v1
/-- A chunk of device `d`'s receive buffer at contents `f`. -/
def recvPts (d : Dev nD) (r : Fin 16) (f : Vec F S2048x4096 .f32) : sProp 𝕄 :=
  (recvChunk r).view.loc (d : Thread nD τ) ↦[(recvChunk r).view.set]{fullShare} f
/-- The chunk of device `d`'s result that device `e` computes, at contents `f`. -/
def outPts (d e : Dev nD) (r : Fin 16) (f : Vec F S4096x4096 .f32) : sProp 𝕄 :=
  (outMine e r).view.loc (d : Thread nD τ) ↦[(outMine e r).view.set]{fullShare} f

/-! ## The schedule -/

/-- What the unit from a peer hands to device `d`: from the `y` peer (`false`), from the `x` peer (`true`). -/
def barPay (d : Dev nD) : Bool → sProp 𝕄
  | false => iprop((bigSep Finset.univ fun r => recvPts (yPeer d) r (V m (yPeer d) main_v3_1)) ∗ bigSep Finset.univ fun r => reached ER (cell 1 r (yPeer d)) 0)
  | true => iprop((bigSep Finset.univ fun r => outPts (xPeer d) d r (V m (xPeer d) main_v3_0)) ∗ bigSep Finset.univ fun r => reached ER (cell 3 r (xPeer d)) 0)

/-- What a copy's units hand to device `d`, by the cell's kind. -/
def copyPay (d : Dev nD) (k : ℕ) (r : Fin 16) : sProp 𝕄 :=
  if k = 0 then sendPts m d r else if k = 1 then recvPts d r (recvFinal m d) else if k = 2 then outPts d d r (outFinal m d)
  else outPts d (xPeer d) r (outFinal m d)

theorem copyPay_0 (d : Dev nD) (r : Fin 16) : copyPay m d (0 : Fin 4).val r = sendPts m d r := if_pos rfl
theorem copyPay_1 (d : Dev nD) (r : Fin 16) : copyPay m d (1 : Fin 4).val r = recvPts d r (recvFinal m d) :=
  (if_neg (by decide)).trans (if_pos rfl)
theorem copyPay_2 (d : Dev nD) (r : Fin 16) : copyPay m d (2 : Fin 4).val r = outPts d d r (outFinal m d) :=
  (if_neg (by decide)).trans ((if_neg (by decide)).trans (if_pos rfl))
theorem copyPay_3 (d : Dev nD) (r : Fin 16) : copyPay m d (3 : Fin 4).val r = outPts d (xPeer d) r (outFinal m d) :=
  (if_neg (by decide)).trans ((if_neg (by decide)).trans (if_neg (by decide)))

/-- The kind and the chunk of a scoped semaphore. -/
def kindOf (s : DmaSem sig) : ℕ := (s.val - 4) / 16
def chunkOf (s : DmaSem sig) : Fin 16 := ⟨(s.val - 4) % 16, Nat.mod_lt _ (by decide)⟩

theorem kindOf_tsem (k : Fin 4) (r : Fin 16) : kindOf (tsem k r) = k.val := by revert k r; decide +kernel
theorem chunkOf_tsem (k : Fin 4) (r : Fin 16) : chunkOf (tsem k r) = r := by revert k r; decide +kernel

/-- What a cell's unit hands over. -/
def payOf (d : Dev nD) (b : Bool) : SemLoc sig → sProp 𝕄
  | .reg _ => barPay m d b
  | .dma s => copyPay m d (kindOf s) (chunkOf s)

/-- The duties of a cell's one round. -/
def dutiesOf : SemLoc sig → Finset Bool
  | .reg _ => {false, true}
  | .dma s => if 4 ≤ s.val then {false} else ∅

def amountOf : SemLoc sig → ℕ
  | .reg _ => 1
  | .dma _ => N

theorem amountOf_pos (s : SemLoc sig) : 0 < amountOf s := by
  cases s with
  | reg s => unfold amountOf; exact Nat.one_pos
  | dma s => unfold amountOf; exact N_pos

/-- One round on every cell: two units on a barrier cell, one copy on each of the others. -/
def talkRd : Rounds.Schedule (GSem nD τ sig) Bool 𝕄 where
  duties g r := if r = 0 then dutiesOf g.2 else ∅
  unitless _ := False
  amount g _ _ := amountOf g.2
  payload g _ b := payOf m g.1.1 b g.2
  amount_pos g _ _ _ := amountOf_pos g.2

instance barPay_storable (d : Dev nD) (b : Bool) : BI.Storable (upEmb : UEmb _ 𝕄) (barPay m d b) := by
  cases b <;> (unfold barPay recvPts outPts; infer_instance)

instance talkRd_payload_storable (g : GSem nD τ sig) (r : ℕ) (b : Bool) :
    BI.Storable (upEmb : UEmb _ 𝕄) ((talkRd (F := F) m).payload g r b) := by
  obtain ⟨t, s⟩ := g
  cases s with
  | reg s => exact barPay_storable m t.1 b
  | dma s =>
    show BI.Storable (upEmb : UEmb _ 𝕄) (copyPay m t.1 (kindOf s) (chunkOf s))
    unfold copyPay sendPts recvPts outPts
    (repeat' split) <;> infer_instance

section Sched

variable (d : Dev nD) (k : Fin 4) (r : Fin 16) (b : Bool)

theorem duties_bar : (talkRd (F := F) m).duties (barCell d) 0 = {false, true} := rfl
theorem duties_cell : (talkRd (F := F) m).duties (cell k r d) 0 = {false} :=
  if_pos (by show 4 ≤ 4 + 16 * k.val + r.val; omega)
theorem duties_later (g : GSem nD τ sig) : ∀ n, 1 ≤ n → (talkRd (F := F) m).duties g n = ∅ :=
  fun n hn => if_neg (by omega)

theorem amount_bar : (talkRd (F := F) m).amount (barCell d) 0 b = 1 := rfl
theorem amount_cell : (talkRd (F := F) m).amount (cell k r d) 0 b = N := rfl

theorem expect_bar : (talkRd (F := F) m).expect (barCell d) 0 = 2 := by
  unfold Schedule.expect Schedule.amountOf; rw [duties_bar]; rfl
theorem expect_cell : (talkRd (F := F) m).expect (cell k r d) 0 = N := by
  unfold Schedule.expect Schedule.amountOf; rw [duties_cell, Finset.sum_singleton, amount_cell]

theorem payload_bar : (talkRd (F := F) m).payload (barCell d) 0 b = barPay m d b := rfl
theorem payload_cell : (talkRd (F := F) m).payload (cell k r d) 0 b = copyPay m d k.val r := by
  show copyPay m d (kindOf (tsem k r)) (chunkOf (tsem k r)) = _
  rw [kindOf_tsem, chunkOf_tsem]

theorem rest_bar : bigSep ((talkRd (F := F) m).duties (barCell d) 0 \ ∅) (fun u => (talkRd (F := F) m).payload (barCell d) 0 u)
    = iprop(barPay m d false ∗ barPay m d true) := by
  rw [Finset.sdiff_empty, duties_bar, bigSep_insert (by decide), bigSep_singleton]; rfl
theorem rest_cell : bigSep ((talkRd (F := F) m).duties (cell k r d) 0 \ ∅) (fun u => (talkRd (F := F) m).payload (cell k r d) 0 u)
    = copyPay m d k.val r := by
  rw [Finset.sdiff_empty, duties_cell, bigSep_singleton, payload_cell]

end Sched

/-! ## What is owed, and the order of waits -/

/-- What device `d` owes its `y` peer for the chunks of a list. -/
def sendDue (d : Dev nD) : List (Fin 16) → CellTallies nD τ sig Unit
  | [] => 0
  | r :: rs => sendDue d rs + tallyAt (cell 1 r (yPeer d)) () N
/-- What device `d` owes its `x` peer for the chunks of a list. -/
def passDue (d : Dev nD) : List (Fin 16) → CellTallies nD τ sig Unit
  | [] => 0
  | r :: rs => passDue d rs + tallyAt (cell 3 r (xPeer d)) () N

/-- What device `d` owes at the start: every copy, and a unit to each peer's barrier. -/
def O₀ (d : Dev nD) : CellTallies nD τ sig Unit :=
  passDue d chunks + sendDue d chunks + tallyAt (barCell (xPeer d)) () 1 + tallyAt (barCell (yPeer d)) () 1

def L (g : GSem nD τ sig) : Finset Unit := if g.1.2 = .tc then {()} else ∅
/-- The levels: barrier cells, then the cells of the first copy, then those of the second; the others below. -/
def lv (g : GSem nD τ sig) (_ : Unit) : ℕ :=
  match g.2 with
  | .reg _ => 1
  | .dma s => if kindOf s = 1 then 2 else if kindOf s = 3 then 3 else 0

theorem L_of_ne (g : GSem nD τ sig) (h : g.1.2 ≠ .tc) : L g = ∅ := if_neg h
theorem L_tc (d : Dev nD) (sm : SemLoc sig) : L ((d : Thread nD τ), sm) = {()} := if_pos rfl

theorem lv_bar (d : Dev nD) : lv (barCell d) () = 1 := rfl
theorem lv_cell (k : Fin 4) (r : Fin 16) (d : Dev nD) : lv (cell k r d) () = if k = 1 then 2 else if k = 3 then 3 else 0 := by
  show (if kindOf (tsem k r) = 1 then 2 else if kindOf (tsem k r) = 3 then 3 else 0) = _
  rw [kindOf_tsem]; revert k; decide
theorem lv_local (j : Fin 3) (d : Dev nD) : lv (localCell j d) () = 0 := by revert j; intro j; fin_cases j <;> rfl

theorem tallyAt_pos {g g' : GSem nD τ sig} {u u' : Unit} {n : ℕ} (h : 0 < (tallyAt g u n : CellTallies nD τ sig Unit) g' u') : g' = g := by
  rw [tallyAt_apply] at h
  by_cases e : g' = g ∧ u' = u
  · exact e.1
  · rw [if_neg e] at h; exact absurd h (Nat.lt_irrefl 0)

theorem add_pos_cases {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h

theorem sendDue_pos (d : Dev nD) (rs : List (Fin 16)) {g : GSem nD τ sig} {u : Unit} (h : 0 < sendDue d rs g u) : ∃ r, g = cell 1 r (yPeer d) := by
  induction rs with
  | nil => exact absurd h (Nat.lt_irrefl 0)
  | cons r rs ih => exact (add_pos_cases h).elim ih fun h => ⟨r, tallyAt_pos h⟩
theorem passDue_pos (d : Dev nD) (rs : List (Fin 16)) {g : GSem nD τ sig} {u : Unit} (h : 0 < passDue d rs g u) : ∃ r, g = cell 3 r (xPeer d) := by
  induction rs with
  | nil => exact absurd h (Nat.lt_irrefl 0)
  | cons r rs ih => exact (add_pos_cases h).elim ih fun h => ⟨r, tallyAt_pos h⟩

theorem O₀_pos {d : Dev nD} {g : GSem nD τ sig} {u : Unit} (h : 0 < O₀ d g u) :
    (∃ r, g = cell 3 r (xPeer d)) ∨ (∃ r, g = cell 1 r (yPeer d)) ∨ g = barCell (xPeer d) ∨ g = barCell (yPeer d) := by
  rcases add_pos_cases h with h | h
  · rcases add_pos_cases h with h | h
    · rcases add_pos_cases h with h | h
      · exact .inl (passDue_pos d _ h)
      · exact .inr (.inl (sendDue_pos d _ h))
    · exact .inr (.inr (.inl (tallyAt_pos h)))
  · exact .inr (.inr (.inr (tallyAt_pos h)))

/-- A device may wait on a cell no higher than `b` while everything it owes is above `b`. -/
theorem mayWait (d : Dev nD) (sm : SemLoc sig) (O : CellTallies nD τ sig Unit) (b : ℕ) (hs : lv ((d : Thread nD τ), sm) () ≤ b)
    (hO : ∀ g u, 0 < O g u → L g = {()} ∧ b < lv g ()) :
    (levAts L lv : sProp 𝕄) ⊢ MayWait (d : Thread nD τ) sm () O :=
  MayOwe.of_cut (L := L) (lev := lv) b (fun p hp => by rw [Finset.mem_singleton.mp hp, L_tc]; exact Finset.mem_singleton_self _)
    (fun g u hg => by rw [(hO g u hg).1]; exact Finset.mem_singleton_self _)
    (fun p hp => by rw [Finset.mem_singleton.mp hp]; exact hs)
    (fun g u hg => (hO g u hg).2)

/-- On the barrier cell, while owing every copy. -/
theorem mayWait_bar (d : Dev nD) :
    (levAts L lv : sProp 𝕄) ⊢ MayWait (d : Thread nD τ) (.reg barSem) () (passDue d chunks + sendDue d chunks) :=
  mayWait d _ _ 1 (le_of_eq (lv_bar d)) fun g u h => by
    rcases add_pos_cases h with h | h
    · obtain ⟨r, rfl⟩ := passDue_pos d _ h; exact ⟨L_tc _ _, by rw [lv_cell]; decide⟩
    · obtain ⟨r, rfl⟩ := sendDue_pos d _ h; exact ⟨L_tc _ _, by rw [lv_cell]; decide⟩

/-- On a cell of the first copy, while owing copies to the `x` peer. -/
theorem mayWait_yRecv (d : Dev nD) (r : Fin 16) (rs : List (Fin 16)) :
    (levAts L lv : sProp 𝕄) ⊢ MayWait (d : Thread nD τ) (.dma (tsem 1 r)) () (passDue d rs) :=
  mayWait d _ _ 2 (le_of_eq (lv_cell 1 r d)) fun g u h => by
    obtain ⟨r, rfl⟩ := passDue_pos d _ h; exact ⟨L_tc _ _, by rw [lv_cell]; decide⟩

/-- On a local copy's cell, while owing copies to the `x` peer. -/
theorem mayWait_local (d : Dev nD) (j : Fin 3) (rs : List (Fin 16)) :
    (levAts L lv : sProp 𝕄) ⊢ MayWait (d : Thread nD τ) (.dma (localSem j)) () (passDue d rs) :=
  mayWait d _ _ 2 (by rw [lv_local]; decide) fun g u h => by
    obtain ⟨r, rfl⟩ := passDue_pos d _ h; exact ⟨L_tc _ _, by rw [lv_cell]; decide⟩

end Cert.KernelIdeal.Own

end
-- ==== Proof.KernelIdeal.Cells.lean ====
/-
  One rule for every wait on a copy's cell and one for every copy to a peer, from what each device knows throughout:
  the cells' invariants, that its own cells are open, and the order of waits.
-/
module

public import proofs.«01_k».proof.Proof.KernelIdeal.Protocol

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## What every device knows -/

/-- The invariants of all the cells, at the names the launch chose. -/
def invs (K : GSem nD τ sig → ℕ) : sProp 𝕄 :=
  iprop((bigSep Finset.univ fun d : Dev nD => cellInv ER (talkRd m) (K (barCell d)) (barCell d))
    ∗ bigSep Finset.univ fun b : Dev nD × Fin 4 × Fin 16 => cellInv ER (talkRd m) (K (cell b.2.1 b.2.2 b.1)) (cell b.2.1 b.2.2 b.1))

instance invs_persistent (K : GSem nD τ sig → ℕ) : BI.Persistent (invs m K) := by unfold invs; infer_instance

theorem invs_bar (K : GSem nD τ sig → ℕ) (d : Dev nD) : invs m K ⊢ cellInv ER (talkRd m) (K (barCell d)) (barCell d) :=
  sep_elim_left.trans (bigSep_elim (Φ := fun d : Dev nD => (cellInv ER (talkRd m) (K (barCell d)) (barCell d) : sProp 𝕄)) (Finset.mem_univ d))
theorem invs_cell (K : GSem nD τ sig → ℕ) (k : Fin 4) (r : Fin 16) (d : Dev nD) : invs m K ⊢ cellInv ER (talkRd m) (K (cell k r d)) (cell k r d) :=
  sep_elim_right.trans (bigSep_elim (Φ := fun b : Dev nD × Fin 4 × Fin 16 =>
    (cellInv ER (talkRd m) (K (cell b.2.1 b.2.2 b.1)) (cell b.2.1 b.2.2 b.1) : sProp 𝕄)) (Finset.mem_univ (d, k, r)))

/-- A device's own copy cells are open. -/
def opened (d : Dev nD) : sProp 𝕄 := bigSep Finset.univ fun b : Fin 4 × Fin 16 => reached ER (cell b.1 b.2 d) 0

instance opened_persistent (d : Dev nD) : BI.Persistent (opened (F := F) d) := by unfold opened; infer_instance

theorem opened_cell (k : Fin 4) (r : Fin 16) (d : Dev nD) : opened (F := F) d ⊢ reached ER (cell k r d) 0 :=
  bigSep_elim (Φ := fun b : Fin 4 × Fin 16 => (reached ER (cell b.1 b.2 d) 0 : sProp 𝕄)) (Finset.mem_univ (k, r))

/-- What device `d` knows throughout its run. -/
def ctx (K : GSem nD τ sig → ℕ) (d : Dev nD) : sProp 𝕄 := iprop(invs m K ∗ opened d ∗ levAts L lv)

instance ctx_persistent (K : GSem nD τ sig → ℕ) (d : Dev nD) : BI.Persistent (ctx m K d) := by unfold ctx; infer_instance

/-! ## The two rules -/

/-- A cell whose one round is over gives its counter back at zero. -/
theorem close (κ : ℕ) (g : GSem nD τ sig) : iprop(cellInv ER (talkRd m) κ g ∗ atPos ER g (0 + 1) ∅ 0) ⊢ (|={Set.univ}=> semVal g 0 : sProp 𝕄) :=
  Rounds.cell_close ER (talkRd m) (Set.mem_univ κ) id (duties_later m g)

/-- The credit of a chunk of any of the arrays. -/
theorem credit_recv (r : Fin 16) : (recvChunk r).view.dmaCredit = N := N_eq
theorem credit_send (d : Dev nD) (r : Fin 16) : (pSend d r).view.dmaCredit = N := N_eq
theorem credit_mine (d : Dev nD) (r : Fin 16) : (outMine d r).view.dmaCredit = N := N_eq
theorem credit_theirs (d : Dev nD) (r : Fin 16) : (outTheirs d r).view.dmaCredit = N := N_eq

/-- A wait on a copy's cell: what the copy hands over comes in, and the cell's counter, back at zero. -/
theorem wp_waitCell (𝒱 : Variants) (K : GSem nD τ sig → ℕ) (d : Dev nD) (k : Fin 4) (r : Fin 16) {sem : DmaSem sig} (hs : sem = tsem k r)
    {src dst : Memref sig .tc .hbm S128x4096 .f32} {h1 : src.view.WordExact} {h2 : dst.view.WordExact} (hN : dst.view.dmaCredit = N)
    (O : CellTallies nD τ sig Unit) (W : Waits sig Unit) (p : PUnit → Prog (Eff F) PUnit) (Q : PUnit → sProp 𝕄) :
    iprop(ctx m K d ∗ cred (tallyAt (cell k r d) () N) ∗ atPos ER (cell k r d) 0 ∅ 0 ∗ owes (d : Thread nD τ) O W
        ∗ MayWait (d : Thread nD τ) (.dma (tsem k r)) () O)
      ⊢ iprop((iprop(owes (d : Thread nD τ) O (insert (SemLoc.dma (tsem k r), ()) W) ∗ semVal (cell k r d) 0 ∗ copyPay m d k.val r)
            -∗ wp frame (wpE (defs₀ (F := F)) 𝒱 d none) Set.univ (p ⟨⟩) Q)
          -∗ wp frame (wpE (defs₀ (F := F)) 𝒱 d none) Set.univ (.op (.waitDma2 sem src dst h1 h2) p) Q) := by
  subst hs
  unfold ctx
  iintro ⟨⟨#HI, #Hop, #Hlev⟩, Hc, Hat, HO, Hmw⟩ Hk
  ihave #Hinv := (invs_cell m K k r d) $$ HI
  iapply (Rounds.wp_wait_rest_token 𝒱 ER (talkRd m) (d : Thread nD τ) none (κ := K (cell k r d))
      (wpE_waitDma2_eq 𝒱 (d : Thread nD τ) none Set.univ) (Set.mem_univ _) () (O := O) (W := W) (R := 0) (m := 0) (T := ∅)
      ((Nat.zero_add _).trans (hN.trans (expect_cell m d k r).symm))) $$ [Hc HO Hmw Hat]
  · isplitr; · iexact Hinv
    isplitl [Hc]; · rw [hN]; iexact Hc
    isplitl [HO]; · iexact HO
    isplitl [Hmw]; · iexact Hmw
    iexact Hat
  iintro ⟨HO, Hat, -, Hpay⟩
  ihave Hp := (Entails.of_eq (rest_cell m d k r)) $$ Hpay
  imod (close m (K (cell k r d)) (cell k r d)) $$ [Hat] with Hv
  · isplitr; · iexact Hinv
    iexact Hat
  iapply Hk
  isplitl [HO]; · iexact HO
  isplitl [Hv]; · iexact Hv
  iexact Hp

/-- A copy to a peer: both ends' duties paid at once. -/
theorem wp_sendCell (𝒱 : Variants) (K : GSem nD τ sig → ℕ) (d e : Dev nD) (k k' : Fin 4) (r : Fin 16) {sS sem : DmaSem sig}
    (hsS : sS = tsem k r) (hsem : sem = tsem k' r)
    {src dst : Memref sig .tc .hbm S128x4096 .f32} {hsc : dst.view.ref.isScScratch = false} {h1 : src.view.WordExact} {h2 : dst.view.WordExact}
    {h3 : DmaTarget.Typed .hbm (.dma sem) (.remote (Dev.tc e) dst (.dma sS) hsc)}
    (hN : dst.view.dmaCredit = N) {fs : Buf (Elt F) (src.view.loc (d : Thread nD τ))} {fd : Buf (Elt F) (dst.view.loc (e : Thread nD τ))}
    (O : CellTallies nD τ sig Unit) (W : Waits sig Unit)
    (hpay : (src.view.loc (d : Thread nD τ) ↦[src.view.set]{fullShare} fs) ⊢ copyPay m d k.val r)
    (hpay' : (dst.view.loc (e : Thread nD τ) ↦[dst.view.set]{fullShare} (dst.view.write (Elt F) fd (src.view.read (Elt F) fs) Finset.univ))
      ⊢ copyPay m e k'.val r)
    (p : PUnit → Prog (Eff F) PUnit) (Q : PUnit → sProp 𝕄) :
    iprop(ctx m K d ∗ (src.view.loc (d : Thread nD τ) ↦[src.view.set]{fullShare} fs) ∗ (dst.view.loc (e : Thread nD τ) ↦[dst.view.set]{fullShare} fd)
        ∗ owes (d : Thread nD τ) (O + tallyAt (cell k' r e) () N) W ∗ dutyTok ER (cell k r d) 0 false ∗ dutyTok ER (cell k' r e) 0 false
        ∗ reached ER (cell k' r e) 0)
      ⊢ iprop((iprop(cred (tallyAt (cell k r d) () N) ∗ owes (d : Thread nD τ) O W)
            -∗ wp frame (wpE (defs₀ (F := F)) 𝒱 d none) Set.univ (p ⟨⟩) Q)
          -∗ wp frame (wpE (defs₀ (F := F)) 𝒱 d none) Set.univ
            (.op (.enqueueDma src (.remote (Dev.tc e) dst (.dma sS) hsc) (.dma sem) h1 h2 h3) p) Q) := by
  subst hsS hsem
  unfold ctx
  iintro ⟨⟨#HI, #Hop, #Hlev⟩, Hs, Hd, HO, Ht, Ht', Hr'⟩ Hk
  ihave #Hinv := (invs_cell m K k r d) $$ HI
  ihave #Hinv' := (invs_cell m K k' r e) $$ HI
  ihave #Hr := (opened_cell k r d) $$ Hop
  iapply (Rounds.wp_send_pointsTo 𝒱 ER (talkRd m) (d : Thread nD τ) none (c' := (e : Thread nD τ)) (src := src) (dst := dst)
      (sS := .dma (tsem k r)) (sem := .dma (tsem k' r)) (q := fullShare) (fs := fs) (κ₁ := K (cell k r d)) (κ₂ := K (cell k' r e))
      (r₁ := 0) (r₂ := 0) (d₁ := false) (d₂ := false) (fd := fd)
      (by rw [duties_cell]; exact Finset.mem_singleton_self _) (by rw [duties_cell]; exact Finset.mem_singleton_self _)
      () () N hN (amount_cell m d k r false) (amount_cell m e k' r false) O rfl (W := W)
      (by rw [payload_cell]; exact hpay) (by rw [payload_cell]; exact hpay')) $$ [Hs Hd HO Ht Ht' Hr']
  · isplitr; · iexact Hinv
    isplitr; · iexact Hinv'
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

end Cert.KernelIdeal.Own

end
-- ==== Proof.KernelIdeal.Chunk.lean ====
/-
  The chunk step: both summands fetched, reduced and normalised, the rows stored and passed on.
-/
module

public import proofs.«01_k».proof.Proof.KernelIdeal.Cells

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (𝒱 : Variants) (K : GSem nD τ sig → ℕ) (d : Dev nD)

def chunkPre (r : Fin 16) : sProp 𝕄 :=
  iprop(minePts m d r ∗ atPos ER (cell 1 r d) 0 ∅ 0 ∗ cred (tallyAt (cell 1 r d) () N)
    ∗ outPts d d r (V m d main_v3_0) ∗ outPts (xPeer d) d r (V m (xPeer d) main_v3_0) ∗ reached ER (cell 3 r (xPeer d)) 0
    ∗ dutyTok ER (cell 2 r d) 0 false ∗ dutyTok ER (cell 3 r (xPeer d)) 0 false)
def chunkPost (r : Fin 16) : sProp 𝕄 :=
  iprop(minePts m d r ∗ recvPts d r (recvFinal m d) ∗ semVal (cell 1 r d) 0 ∗ cred (tallyAt (cell 2 r d) () N))

/-- A scratch buffer, at some contents. -/
def scratch (b : Ref sig .tc) : sProp 𝕄 :=
  iprop(∃ f : Buf (Elt F) ((d : Thread nD τ).loc b), ((d : Thread nD τ).loc b) ↦{fullShare} f)
/-- Gamma's staging buffer. -/
def gPts : sProp 𝕄 := ((d : Thread nD τ).loc cc0_stg0_0) ↦{fullShare} gVec m d
/-- What the step uses and leaves as it was. -/
def tools : sProp 𝕄 :=
  iprop(scratch d cc0_scratch0 ∗ scratch d cc0_scratch1 ∗ scratch d cc0_scratch2 ∗ gPts m d
    ∗ semVal (localCell 0 d) 0 ∗ semVal (localCell 1 d) 0 ∗ semVal (localCell 2 d) 0)
def chunkKeep (rs : List (Fin 16)) : sProp 𝕄 :=
  iprop(ctx m K d ∗ tools m d ∗ ∃ W, owes (d : Thread nD τ) (passDue d rs) W)

/-! ## What the scratch buffers hold -/

theorem zero_off : (![0, 0] : Fin 2 → ℕ) = fun _ => 0 := by funext k; fin_cases k <;> rfl

theorem a_write (f w : Vec F S128x4096 .f32) : aRef.view.write (Elt F) f w Finset.univ = w := View.write_whole_univ (Val := Elt F) _ _ _
theorem b_write (f w : Vec F S128x4096 .f32) : bRef.view.write (Elt F) f w Finset.univ = w := View.write_whole_univ (Val := Elt F) _ _ _
theorem o_read (f : Vec F S128x4096 .f32) : oRef.view.read (Elt F) f = f := View.read_whole (Val := Elt F) _ _
theorem a_load (f : Vec F S128x4096 .f32) :
    aRef.view.readAt (Elt F) (Rect.unit (s := S128x4096) ![0, 0] S128x4096.size inb_S128x4096_S128x4096_0_0).toLoadRect f = f :=
  Memref.readAt_unit_zero (Elt F) cc0_scratch0 zero_off inb_S128x4096_S128x4096_0_0 f
theorem b_load (f : Vec F S128x4096 .f32) :
    bRef.view.readAt (Elt F) (Rect.unit (s := S128x4096) ![0, 0] S128x4096.size inb_S128x4096_S128x4096_0_0).toLoadRect f = f :=
  Memref.readAt_unit_zero (Elt F) cc0_scratch1 zero_off inb_S128x4096_S128x4096_0_0 f
theorem g_load (f : Vec F S1x4096 .f32) :
    gRef.view.readAt (Elt F) (Rect.unit (s := S1x4096) ![0, 0] S1x4096.size inb_S1x4096_S1x4096_0_0).toLoadRect f = f :=
  Memref.readAt_unit_zero (Elt F) cc0_stg0_0 zero_off inb_S1x4096_S1x4096_0_0 f
theorem o_store (f w : Vec F S128x4096 .f32) :
    (oRef.access (Rect.unit (s := S128x4096) ![0, 0] S128x4096.size inb_S128x4096_S128x4096_0_0)).write (Elt F) f w Finset.univ = w :=
  Memref.write_access_unit_zero_univ (Elt F) cc0_scratch2 zero_off inb_S128x4096_S128x4096_0_0 f w

theorem a_landed (r : Fin 16) (f : Vec F S128x4096 .f32) :
    (aRef.view.loc (d : Thread nD τ) ↦[Finset.univ]{fullShare}
        (aRef.view.write (Elt F) f (ReadAs.same.apply ((pMine d r).view.read (Elt F) (V m d main_v1))) Finset.univ) : sProp 𝕄)
      = (aRef.view.loc (d : Thread nD τ) ↦[Finset.univ]{fullShare} mineVal m d r) :=
  congrArg (fun v => (aRef.view.loc (d : Thread nD τ) ↦[Finset.univ]{fullShare} v : sProp 𝕄)) (a_write f _)

theorem b_landed (r : Fin 16) (f : Vec F S128x4096 .f32) :
    (bRef.view.loc (d : Thread nD τ) ↦[Finset.univ]{fullShare}
        (bRef.view.write (Elt F) f (ReadAs.same.apply ((recvChunk r).view.read (Elt F) (recvFinal m d))) Finset.univ) : sProp 𝕄)
      = (bRef.view.loc (d : Thread nD τ) ↦[Finset.univ]{fullShare} sendVal m (yPeer d) r) :=
  congrArg (fun v => (bRef.view.loc (d : Thread nD τ) ↦[Finset.univ]{fullShare} v : sProp 𝕄)) ((b_write f _).trans (recv_read m d r))

theorem o_stored (r : Fin 16) (f : Vec F S128x4096 .f32) :
    ((oRef.access (Rect.unit (s := S128x4096) ![0, 0] S128x4096.size inb_S128x4096_S128x4096_0_0)).loc (d : Thread nD τ) ↦[Finset.univ]{fullShare}
        ((oRef.access (Rect.unit (s := S128x4096) ![0, 0] S128x4096.size inb_S128x4096_S128x4096_0_0)).write (Elt F) f
          (k0_pay1 (mineVal m d r) (sendVal m (yPeer d) r) (gVec m d)) Finset.univ) : sProp 𝕄)
      = (oRef.view.loc (d : Thread nD τ) ↦[oRef.view.set]{fullShare} computed m d r) := by
  rw [o_store, View.set_whole]; rfl

/-- The rows just stored, as the result's chunk. -/
theorem stored (r : Fin 16) (f : Vec F S4096x4096 .f32) :
    ((outMine d r).view.loc (d : Thread nD τ) ↦[(outMine d r).view.set]{fullShare}
        ((outMine d r).view.write (Elt F) f (computed m d r) Finset.univ) : sProp 𝕄) = outPts d d r (outFinal m d) :=
  pointsTo_congr (out_landed m d r f)

/-- The rows passed on, as the `x` peer's chunk. -/
theorem pass_lands (r : Fin 16) :
    ((outMine d r).view.loc (xPeer d : Thread nD τ) ↦[(outMine d r).view.set]{fullShare}
        ((outMine d r).view.write (Elt F) (V m (xPeer d) main_v3_0) ((outMine d r).view.read (Elt F) (outFinal m d)) Finset.univ) : sProp 𝕄)
      ⊢ copyPay m (xPeer d) (3 : Fin 4).val r := by
  rw [copyPay_3, xPeer_xPeer, outFinal_xPeer, out_read]
  exact Entails.of_eq (pointsTo_congr (out_landed m d r _))

theorem ctx_lev : ctx m K d ⊢ levAts L lv := by
  unfold ctx; exact sep_elim_right.trans sep_elim_right

theorem pass_leaves (r : Fin 16) :
    ((outMine d r).view.loc (d : Thread nD τ) ↦[(outMine d r).view.set]{fullShare} outFinal m d : sProp 𝕄) ⊢ copyPay m d (2 : Fin 4).val r :=
  Entails.of_eq (copyPay_2 m d r).symm

/-- The local copies' counters, where the algebra keeps them. -/
abbrev EC : UEmb Counters (MT nD τ sig Unit (Elt F) ℕ UU ℕ) := countersEmb

theorem credit_b : bRef.view.dmaCredit = N := N_eq

/-! ## The step, in four parts -/

variable (r : Fin 16) (rs : List (Fin 16))

/-- A local copy: its two ends and its counter go in flight. -/
theorem start_copy (Ψ : PUnit.{1} → sProp 𝕄) (j : Fin 3) {sp sp' : Space} (src : Memref sig .tc sp S128x4096 .f32) (dst : Memref sig .tc sp' S128x4096 .f32)
    (hN : dst.view.dmaCredit = N) {h1 : src.view.WordExact} {h2 : dst.view.WordExact}
    {h3 : DmaTarget.Typed (nD := nD) sp (.dma (localSem j)) (.here (p := (.tc : Proc τ)) dst)}
    (fs : Buf (Elt F) (src.view.loc (d : Thread nD τ))) (fd : Buf (Elt F) (dst.view.loc (d : Thread nD τ))) (p : PUnit.{1} → Prog (Eff F) PUnit.{1}) :
    iprop((src.view.loc (d : Thread nD τ) ↦[src.view.set]{fullShare} fs) ∗ (dst.view.loc (d : Thread nD τ) ↦[dst.view.set]{fullShare} fd)
        ∗ semVal (localCell j d) 0)
      ⊢ iprop((Transfers.Flight EC (d : Thread nD τ) (.dma (localSem j)) () N
            iprop((dst.view.loc (d : Thread nD τ) ↦[dst.view.set]{fullShare} (dst.view.write (Elt F) fd (ReadAs.same.apply (src.view.read (Elt F) fs)) Finset.univ))
              ∗ (src.view.loc (d : Thread nD τ) ↦[src.view.set]{fullShare} fs))
          -∗ wp frame (wpE (defs₀ (F := F)) 𝒱 d none) Set.univ (p ⟨⟩) Ψ)
        -∗ wp frame (wpE (defs₀ (F := F)) 𝒱 d none) Set.univ (.op (.enqueueDma src (.here dst) (.dma (localSem j)) h1 h2 h3) p) Ψ) :=
  Transfers.wp_dmaLocal EC 𝒱 (d : Thread nD τ) none (src := src) (via := .same) (dst := dst) (sm := .dma (localSem j)) (q := fullShare)
    (fs := fs) (Sd := dst.view.set) (fd := fd) () N hN N_pos (Finset.Subset.refl _)

/-- Waiting for a local copy: both ends and the counter are back. -/
theorem end_copy (Ψ : PUnit.{1} → sProp 𝕄) (j : Fin 3) {sp sp' : Space} (src : Memref sig .tc sp S128x4096 .f32) (dst : Memref sig .tc sp' S128x4096 .f32)
    (hN : dst.view.dmaCredit = N) {h1 : src.view.WordExact} {h2 : dst.view.WordExact} (D : sProp 𝕄) (W : Waits sig Unit) (p : PUnit.{1} → Prog (Eff F) PUnit.{1}) :
    iprop(Transfers.Flight EC (d : Thread nD τ) (.dma (localSem j)) () N D ∗ ctx m K d ∗ owes (d : Thread nD τ) (passDue d rs) W)
      ⊢ iprop((iprop(D ∗ semVal (localCell j d) 0 ∗ ∃ W, owes (d : Thread nD τ) (passDue d rs) W) -∗ wp frame (wpE (defs₀ (F := F)) 𝒱 d none) Set.univ (p ⟨⟩) Ψ)
        -∗ wp frame (wpE (defs₀ (F := F)) 𝒱 d none) Set.univ (.op (.waitDma2 (localSem j) src dst h1 h2) p) Ψ) := by
  iintro ⟨Hf, #Hctx, HO⟩ Hk
  ihave #Hlev := (ctx_lev m K d) $$ Hctx
  iapply (Transfers.wp_waitLocalO EC 𝒱 (d : Thread nD τ) none (sem := localSem j) (srcw := src) (dstw := dst) () hN (D := D)) $$ [Hf HO]
  · isplitl [Hf]; · iexact Hf
    isplitl [HO]; · iexact HO
    iapply (mayWait_local d j rs); iexact Hlev
  iintro ⟨HD, Hv, HO⟩
  iapply Hk
  isplitl [HD]; · iexact HD
  isplitl [Hv]; · iexact Hv
  iexists _; iexact HO

theorem a_whole (f : Vec F S128x4096 .f32) :
    (((d : Thread nD τ).loc cc0_scratch0) ↦{fullShare} f : sProp 𝕄) = (aRef.view.loc (d : Thread nD τ) ↦[aRef.view.set]{fullShare} f) := by
  rw [View.set_whole]
theorem b_whole (f : Vec F S128x4096 .f32) :
    (((d : Thread nD τ).loc cc0_scratch1) ↦{fullShare} f : sProp 𝕄) = (bRef.view.loc (d : Thread nD τ) ↦[bRef.view.set]{fullShare} f) := by
  rw [View.set_whole]

/-- This device's own summand, fetched. -/
theorem a_here (f : Vec F S128x4096 .f32) :
    (aRef.view.loc (d : Thread nD τ) ↦[aRef.view.set]{fullShare}
        (aRef.view.write (Elt F) f (ReadAs.same.apply ((pMine d r).view.read (Elt F) (V m d main_v1))) Finset.univ) : sProp 𝕄)
      = (aRef.view.loc (d : Thread nD τ) ↦[Finset.univ]{fullShare} mineVal m d r) := by
  rw [← a_landed m d r f, View.set_whole]
/-- The `y` peer's summand, fetched. -/
theorem b_here (f : Vec F S128x4096 .f32) :
    (bRef.view.loc (d : Thread nD τ) ↦[bRef.view.set]{fullShare}
        (bRef.view.write (Elt F) f (ReadAs.same.apply ((recvChunk r).view.read (Elt F) (recvFinal m d))) Finset.univ) : sProp 𝕄)
      = (bRef.view.loc (d : Thread nD τ) ↦[Finset.univ]{fullShare} sendVal m (yPeer d) r) := by
  rw [← b_landed m d r f, View.set_whole]

end Cert.KernelIdeal.Own

end
-- ==== Proof.KernelIdeal.Fetch.lean ====
/-
  The chunk step as a whole: fetch both summands, reduce and normalise, store the rows, pass them on.
-/
module

public import proofs.«01_k».proof.Proof.KernelIdeal.Chunk

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (𝒱 : Variants) (K : GSem nD τ sig → ℕ) (d : Dev nD)

/-- The fetched summands and what stays to be used, between the fetch and the arithmetic. -/
def fetched (r : Fin 16) (rs : List (Fin 16)) : sProp 𝕄 :=
  iprop((aRef.view.loc (d : Thread nD τ) ↦[Finset.univ]{fullShare} mineVal m d r)
    ∗ (bRef.view.loc (d : Thread nD τ) ↦[Finset.univ]{fullShare} sendVal m (yPeer d) r)
    ∗ minePts m d r ∗ recvPts d r (recvFinal m d) ∗ semVal (cell 1 r d) 0
    ∗ semVal (localCell 0 d) 0 ∗ semVal (localCell 1 d) 0
    ∗ ∃ W, owes (d : Thread nD τ) (passDue d (r :: rs)) W)

/-- What the fetch starts from. -/
def toFetch (r : Fin 16) (rs : List (Fin 16)) : sProp 𝕄 :=
  iprop(minePts m d r ∗ atPos ER (cell 1 r d) 0 ∅ 0 ∗ cred (tallyAt (cell 1 r d) () N)
    ∗ scratch d cc0_scratch0 ∗ scratch d cc0_scratch1 ∗ semVal (localCell 0 d) 0 ∗ semVal (localCell 1 d) 0
    ∗ ctx m K d ∗ ∃ W, owes (d : Thread nD τ) (passDue d (r :: rs)) W)

/-- The five transfers and waits that bring both summands in, before any program. -/
theorem fetch_part (Ψ : PUnit.{1} → sProp 𝕄) (r : Fin 16) (rs : List (Fin 16)) (p : Prog (Eff F) PUnit.{1}) :
    toFetch m K d r rs
      ⊢ iprop((fetched m d r rs -∗ wp frame (wpE (defs₀ (F := F)) 𝒱 d none) Set.univ p Ψ)
        -∗ wp frame (wpE (defs₀ (F := F)) 𝒱 d none) Set.univ
          (.op (.enqueueDma (pMine d r) (.here aRef) (.dma (localSem 0)) (View.wordExact_bits rfl) (Memref.isWhole_whole _).wordExact ⟨Or.inl rfl, trivial⟩) fun _ =>
          .op (.waitDma2 (yRecvSem r) (pSend d r) (recvChunk r) (View.wordExact_bits rfl) (View.wordExact_bits rfl)) fun _ =>
          .op (.enqueueDma (recvChunk r) (.here bRef) (.dma (localSem 1)) (View.wordExact_bits rfl) (Memref.isWhole_whole _).wordExact ⟨Or.inl rfl, trivial⟩) fun _ =>
          .op (.waitDma2 (localSem 0) (pMine d r) aRef (View.wordExact_bits rfl) (Memref.isWhole_whole _).wordExact) fun _ =>
          .op (.waitDma2 (localSem 1) (recvChunk r) bRef (View.wordExact_bits rfl) (Memref.isWhole_whole _).wordExact) fun _ => p) Ψ) := by
  unfold toFetch fetched scratch
  iintro ⟨Hp, Hat, Hc, ⟨%fa, Ha⟩, ⟨%fb, Hb⟩, Hv0, Hv1, #Hctx, ⟨%W, HO⟩⟩ Hk
  ihave #Hlev := (ctx_lev m K d) $$ Hctx
  ihave Ha := (Entails.of_eq (a_whole d fa)) $$ Ha
  ihave Hb := (Entails.of_eq (b_whole d fb)) $$ Hb
  iapply (start_copy 𝒱 d Ψ 0 (pMine d r) aRef N_eq (V m d main_v1) fa) $$ [Hp Ha Hv0]
  · isplitl [Hp]; · unfold minePts; iexact Hp
    isplitl [Ha]; · iexact Ha
    iexact Hv0
  iintro Hf0
  iapply (wp_waitCell m 𝒱 K d 1 r (yRecvSem_eq r) (credit_recv r) (passDue d (r :: rs)) W) $$ [Hat Hc HO]
  · isplitr; · iexact Hctx
    isplitl [Hc]; · iexact Hc
    isplitl [Hat]; · iexact Hat
    isplitl [HO]; · iexact HO
    iapply (mayWait_yRecv d r (r :: rs)); iexact Hlev
  iintro ⟨HO, Hv, Hrecv⟩
  ihave Hrecv := (Entails.of_eq (copyPay_1 m d r)) $$ Hrecv
  iapply (start_copy 𝒱 d Ψ 1 (recvChunk r) bRef credit_b (recvFinal m d) fb) $$ [Hrecv Hb Hv1]
  · isplitl [Hrecv]; · unfold recvPts; iexact Hrecv
    isplitl [Hb]; · iexact Hb
    iexact Hv1
  iintro Hf1
  iapply (end_copy m 𝒱 K d (r :: rs) Ψ 0 (pMine d r) aRef N_eq) $$ [Hf0 HO]
  · isplitl [Hf0]; · iexact Hf0
    isplitr; · iexact Hctx
    iexact HO
  iintro ⟨⟨Ha, Hp⟩, Hv0, ⟨%W, HO⟩⟩
  iapply (end_copy m 𝒱 K d (r :: rs) Ψ 1 (recvChunk r) bRef credit_b) $$ [Hf1 HO]
  · isplitl [Hf1]; · iexact Hf1
    isplitr; · iexact Hctx
    iexact HO
  iintro ⟨⟨Hb, Hrecv⟩, Hv1, HO⟩
  ihave Ha := (Entails.of_eq (a_here m d r fa)) $$ Ha
  ihave Hb := (Entails.of_eq (b_here m d r fb)) $$ Hb
  iapply Hk
  isplitl [Ha]; · iexact Ha
  isplitl [Hb]; · iexact Hb
  isplitl [Hp]; · unfold minePts; iexact Hp
  isplitl [Hrecv]; · unfold recvPts; iexact Hrecv
  isplitl [Hv]; · iexact Hv
  isplitl [Hv0]; · iexact Hv0
  isplitl [Hv1]; · iexact Hv1
  iexact HO

/-- The four loads and the store: the staging rows become the normalised sums. -/
theorem reduce_part (Ψ : PUnit.{1} → sProp 𝕄) (r : Fin 16) (fo : Vec F S128x4096 .f32) (p : Prog (Eff F) PUnit.{1}) :
    iprop((aRef.view.loc (d : Thread nD τ) ↦[Finset.univ]{fullShare} mineVal m d r)
      ∗ (bRef.view.loc (d : Thread nD τ) ↦[Finset.univ]{fullShare} sendVal m (yPeer d) r)
      ∗ (gRef.view.loc (d : Thread nD τ) ↦[Finset.univ]{fullShare} gVec m d)
      ∗ (oRef.view.loc (d : Thread nD τ) ↦[Finset.univ]{fullShare} fo))
      ⊢ iprop((iprop((aRef.view.loc (d : Thread nD τ) ↦[Finset.univ]{fullShare} mineVal m d r)
          ∗ (bRef.view.loc (d : Thread nD τ) ↦[Finset.univ]{fullShare} sendVal m (yPeer d) r)
          ∗ (gRef.view.loc (d : Thread nD τ) ↦[Finset.univ]{fullShare} gVec m d)
          ∗ (oRef.view.loc (d : Thread nD τ) ↦[oRef.view.set]{fullShare} computed m d r))
            -∗ wp frame (wpE (defs₀ (F := F)) 𝒱 d none) Set.univ p Ψ)
        -∗ wp frame (wpE (defs₀ (F := F)) 𝒱 d none) Set.univ
          (.op (.load aRef (Rect.unit (s := S128x4096) ![0, 0] S128x4096.size inb_S128x4096_S128x4096_0_0).toLoadRect (View.loadsAt_vmem h_S128x4096)) fun (a : Vec F S128x4096 .f32) =>
          .op (.load bRef (Rect.unit (s := S128x4096) ![0, 0] S128x4096.size inb_S128x4096_S128x4096_0_0).toLoadRect (View.loadsAt_vmem h_S128x4096)) fun (b : Vec F S128x4096 .f32) =>
          .op (.load gRef (Rect.unit (s := S1x4096) ![0, 0] S1x4096.size inb_S1x4096_S1x4096_0_0).toLoadRect (View.loadsAt_vmem h_S1x4096)) fun (g : Vec F S1x4096 .f32) =>
          .op (.load oRef (Rect.unit (s := S128x4096) ![0, 0] S128x4096.size inb_S128x4096_S128x4096_0_0).toLoadRect (View.loadsAt_vmem h_S128x4096)) fun (_ : Vec F S128x4096 .f32) =>
          .op (.store oRef (Rect.unit (s := S128x4096) ![0, 0] S128x4096.size inb_S128x4096_S128x4096_0_0) (k0_pay1 a b g) Finset.univ (View.stores_vmem_bits_univ h_S128x4096 rfl) (.inl rfl)) fun _ => p) Ψ) := by
  iintro ⟨Ha, Hb, Hg, Hs⟩ Hk
  iapply (wp_load 𝒱 (d : Thread nD τ) none Set.univ (m := aRef) (S := Finset.univ) (q := fullShare) (f := mineVal m d r) (Finset.subset_univ _)) $$ [Ha]
  · iexact Ha
  iintro Ha
  iapply (wp_load 𝒱 (d : Thread nD τ) none Set.univ (m := bRef) (S := Finset.univ) (q := fullShare) (f := sendVal m (yPeer d) r) (Finset.subset_univ _)) $$ [Hb]
  · iexact Hb
  iintro Hb
  iapply (wp_load 𝒱 (d : Thread nD τ) none Set.univ (m := gRef) (S := Finset.univ) (q := fullShare) (f := gVec m d) (Finset.subset_univ _)) $$ [Hg]
  · iexact Hg
  iintro Hg
  iapply (wp_load 𝒱 (d : Thread nD τ) none Set.univ (m := oRef) (S := Finset.univ) (q := fullShare) (f := fo) (Finset.subset_univ _)) $$ [Hs]
  · iexact Hs
  iintro Hs
  rw [a_load, b_load, g_load]
  iapply (wp_store 𝒱 (d : Thread nD τ) none Set.univ (m := oRef) (S := Finset.univ) (f := fo) (Finset.subset_univ _)) $$ [Hs]
  · iexact Hs
  iintro Hs
  ihave Hs := (Entails.of_eq (o_stored m d r fo)) $$ Hs
  iapply Hk
  isplitl [Ha]; · iexact Ha
  isplitl [Hb]; · iexact Hb
  isplitl [Hg]; · iexact Hg
  iexact Hs

/-- The rows the local copy left, as the result's chunk. -/
theorem o_there (r : Fin 16) (f : Vec F S4096x4096 .f32) :
    ((outMine d r).view.loc (d : Thread nD τ) ↦[(outMine d r).view.set]{fullShare}
        ((outMine d r).view.write (Elt F) f (ReadAs.same.apply (oRef.view.read (Elt F) (computed m d r))) Finset.univ) : sProp 𝕄)
      = outPts d d r (outFinal m d) := by
  rw [← stored m d r f]
  exact congrArg (fun v => ((outMine d r).view.loc (d : Thread nD τ) ↦[(outMine d r).view.set]{fullShare}
        ((outMine d r).view.write (Elt F) f v Finset.univ) : sProp 𝕄)) (o_read (computed m d r))

/-- What the store and the passing on start from. -/
def toPass (r : Fin 16) (rs : List (Fin 16)) : sProp 𝕄 :=
  iprop((oRef.view.loc (d : Thread nD τ) ↦[oRef.view.set]{fullShare} computed m d r)
    ∗ outPts d d r (V m d main_v3_0) ∗ outPts (xPeer d) d r (V m (xPeer d) main_v3_0) ∗ reached ER (cell 3 r (xPeer d)) 0
    ∗ dutyTok ER (cell 2 r d) 0 false ∗ dutyTok ER (cell 3 r (xPeer d)) 0 false ∗ semVal (localCell 2 d) 0
    ∗ ctx m K d ∗ ∃ W, owes (d : Thread nD τ) (passDue d (r :: rs)) W)
/-- What they leave. -/
def passed (r : Fin 16) (rs : List (Fin 16)) : sProp 𝕄 :=
  iprop((oRef.view.loc (d : Thread nD τ) ↦[oRef.view.set]{fullShare} computed m d r)
    ∗ semVal (localCell 2 d) 0 ∗ cred (tallyAt (cell 2 r d) () N) ∗ ∃ W, owes (d : Thread nD τ) (passDue d rs) W)

/-- The rows stored in the result and sent to the `x` peer. -/
theorem pass_part (r : Fin 16) (rs : List (Fin 16)) :
    toPass m K d r rs
      ⊢ wp frame (wpE (defs₀ (F := F)) 𝒱 d none) Set.univ
          (.op (.enqueueDma oRef (.here (outMine d r)) (.dma (localSem 2)) (Memref.isWhole_whole _).wordExact (View.wordExact_bits rfl) ⟨Or.inl rfl, trivial⟩) fun _ =>
          .op (.waitDma2 (localSem 2) oRef (outMine d r) (Memref.isWhole_whole _).wordExact (View.wordExact_bits rfl)) fun _ =>
          .op (.enqueueDma (outMine d r) (.remote (Dev.tc (xPeer d)) (outMine d r) (.dma (xSendSem r))) (.dma (xRecvSem r))
            (View.wordExact_bits rfl) (View.wordExact_bits rfl) ⟨⟨rfl, Or.inl rfl⟩, trivial⟩) .ret)
          (fun _ => passed m d r rs) := by
  unfold toPass passed
  iintro ⟨Hs, Ho, Ho', Hr, Ht, Ht', Hv2, #Hctx, ⟨%W, HO⟩⟩
  iapply (start_copy 𝒱 d _ 2 oRef (outMine d r) (credit_mine d r) (computed m d r) (V m d main_v3_0)) $$ [Hs Ho Hv2]
  · isplitl [Hs]; · iexact Hs
    isplitl [Ho]; · unfold outPts; iexact Ho
    iexact Hv2
  iintro Hf2
  iapply (end_copy m 𝒱 K d (r :: rs) _ 2 oRef (outMine d r) (credit_mine d r)) $$ [Hf2 HO]
  · isplitl [Hf2]; · iexact Hf2
    isplitr; · iexact Hctx
    iexact HO
  iintro ⟨⟨Ho, Hs⟩, Hv2, ⟨%W, HO⟩⟩
  ihave Ho := (Entails.of_eq (o_there m d r (V m d main_v3_0))) $$ Ho
  unfold outPts
  iapply (wp_sendCell m 𝒱 K d (xPeer d) 2 3 r (xSendSem_eq r) (xRecvSem_eq r) (credit_mine d r) (src := outMine d r) (dst := outMine d r)
    (fs := outFinal m d) (fd := V m (xPeer d) main_v3_0) (passDue d rs) W (pass_leaves m d r) (pass_lands m d r)) $$ [Ho Ho' HO Ht Ht' Hr]
  · isplitr; · iexact Hctx
    isplitl [Ho]; · iexact Ho
    isplitl [Ho']; · iexact Ho'
    isplitl [HO]; · iexact HO
    isplitl [Ht]; · iexact Ht
    isplitl [Ht']; · iexact Ht'
    iexact Hr
  iintro ⟨Hc, HO⟩
  rw [wp_ret]
  imodintro
  isplitl [Hs]; · iexact Hs
  isplitl [Hv2]; · iexact Hv2
  isplitl [Hc]; · iexact Hc
  iexists W; iexact HO

theorem o_whole (f : Vec F S128x4096 .f32) :
    (oRef.view.loc (d : Thread nD τ) ↦[oRef.view.set]{fullShare} f : sProp 𝕄) = (((d : Thread nD τ).loc cc0_scratch2) ↦{fullShare} f) := by
  rw [View.set_whole]

/-- One chunk: fetched, reduced, stored, passed on. -/
theorem chunk_step (r : Fin 16) (rs : List (Fin 16)) :
    iprop(chunkPre m d r ∗ chunkKeep m K d (r :: rs))
      ⊢ wp frame (wpE (defs₀ (F := F)) 𝒱 d none) Set.univ (chunkStep d r) (fun _ => iprop(chunkPost m d r ∗ chunkKeep m K d rs)) := by
  unfold chunkPre chunkPost chunkKeep tools gPts chunkStep
  iintro ⟨⟨Hp, Hat, Hc, Ho, Ho', #Hr, Ht, Ht'⟩, #Hctx, ⟨Ha, Hb, Hs, Hg, Hv0, Hv1, Hv2⟩, HO⟩
  iapply (fetch_part m 𝒱 K d _ r rs _) $$ [Hp Hat Hc Ha Hb Hv0 Hv1 HO]
  · unfold toFetch
    isplitl [Hp]; · iexact Hp
    isplitl [Hat]; · iexact Hat
    isplitl [Hc]; · iexact Hc
    isplitl [Ha]; · iexact Ha
    isplitl [Hb]; · iexact Hb
    isplitl [Hv0]; · iexact Hv0
    isplitl [Hv1]; · iexact Hv1
    isplitr; · iexact Hctx
    iexact HO
  unfold fetched scratch
  icases Hs with ⟨%fo, Hs⟩
  iintro ⟨Ha, Hb, Hp, Hrecv, Hv, Hv0, Hv1, HO⟩
  iapply (reduce_part m 𝒱 d _ r fo _) $$ [Ha Hb Hg Hs]
  · isplitl [Ha]; · iexact Ha
    isplitl [Hb]; · iexact Hb
    isplitl [Hg]; · iexact Hg
    iexact Hs
  iintro ⟨Ha, Hb, Hg, Hs⟩
  iapply (wp_wand_r frame (wpE (defs₀ (F := F)) 𝒱 d none) Set.univ (Q := fun _ => passed m d r rs))
  isplitl [Hs Ho Ho' Ht Ht' Hv2 HO]
  · iapply (pass_part m 𝒱 K d r rs)
    unfold toPass
    isplitl [Hs]; · iexact Hs
    isplitl [Ho]; · iexact Ho
    isplitl [Ho']; · iexact Ho'
    isplitr; · iexact Hr
    isplitl [Ht]; · iexact Ht
    isplitl [Ht']; · iexact Ht'
    isplitl [Hv2]; · iexact Hv2
    isplitr; · iexact Hctx
    iexact HO
  iintro %u
  unfold passed
  iintro ⟨Hs, Hv2, Hc, HO⟩
  ihave Hs := (Entails.of_eq (o_whole d (computed m d r))) $$ Hs
  isplitl [Hp Hrecv Hv Hc]
  · isplitl [Hp]; · iexact Hp
    isplitl [Hrecv]; · iexact Hrecv
    isplitl [Hv] <;> iassumption
  isplitr; · iexact Hctx
  isplitr [HO]
  · isplitl [Ha]; · iexists _; iexact Ha
    isplitl [Hb]; · iexists _; iexact Hb
    isplitl [Hs]; · iexists _; iexact Hs
    isplitl [Hg]; · iexact Hg
    isplitl [Hv0]; · iexact Hv0
    isplitl [Hv1] <;> iassumption
  iexact HO

end Cert.KernelIdeal.Own

end
-- ==== Proof.KernelIdeal.Steps.lean ====
/-
  The handshake and the send, gather and drain steps: what each one needs and what it leaves.
-/
module

public import proofs.«01_k».proof.Proof.KernelIdeal.Cells

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (𝒱 : Variants) (K : GSem nD τ sig → ℕ) (d : Dev nD)

/-! ## The handshake -/

def meetPre : sProp 𝕄 :=
  iprop(ctx m K d ∗ atPos ER (barCell d) 0 ∅ 0 ∗ cred (tallyAt (barCell d) () 2)
    ∗ reached ER (barCell (yPeer d)) 0 ∗ reached ER (barCell (xPeer d)) 0
    ∗ dutyTok ER (barCell (yPeer d)) 0 false ∗ dutyTok ER (barCell (xPeer d)) 0 true
    ∗ (bigSep Finset.univ fun r => recvPts d r (V m d main_v3_1)) ∗ (bigSep Finset.univ fun r => outPts d (xPeer d) r (V m d main_v3_0))
    ∗ ∃ W, owes (d : Thread nD τ) (O₀ d) W)

def meetPost : sProp 𝕄 :=
  iprop(semVal (barCell d) 0 ∗ barPay m d false ∗ barPay m d true ∗ ∃ W, owes (d : Thread nD τ) (passDue d chunks + sendDue d chunks) W)

theorem opened_kind (k : Fin 4) (e : Dev nD) : opened (F := F) e ⊢ bigSep Finset.univ fun r => reached ER (cell k r e) 0 := by
  unfold opened
  rw [bigSep_univ_prod]
  exact bigSep_elim (Φ := fun k : Fin 4 => (bigSep Finset.univ fun r : Fin 16 => reached ER (cell k r e) 0 : sProp 𝕄)) (Finset.mem_univ k)

theorem meet_step : meetPre m K d ⊢ wp frame (wpE (defs₀ (F := F)) 𝒱 d none) Set.univ (meetStep d) (fun _ => meetPost m d) := by
  unfold meetPre meetPost meetStep ctx
  iintro ⟨⟨#HI, #Hop, #Hlev⟩, Hat, Hc, Hry, Hrx, Hty, Htx, Hrecv, Hout, ⟨%W, HO⟩⟩
  ihave #Hinv := (invs_bar m K d) $$ HI
  ihave #Hinvy := (invs_bar m K (yPeer d)) $$ HI
  ihave #Hinvx := (invs_bar m K (xPeer d)) $$ HI
  iapply (Rounds.wp_signal 𝒱 ER (talkRd m) (d : Thread nD τ) none (dst := (yPeer d : Thread nD τ)) (sem := barSem) (r := 0) (d := false) (κ := K (barCell (yPeer d)))
      (by rw [duties_bar]; decide) (amount_bar m (yPeer d) false) () (passDue d chunks + sendDue d chunks + tallyAt (barCell (xPeer d)) () 1) rfl)
    $$ [HO Hty Hry Hrecv]
  · isplitr; · iexact Hinvy
    isplitl [HO]; · iexact HO
    isplitl [Hty]; · iexact Hty
    isplitl [Hrecv]
    · rw [payload_bar]; unfold barPay; rw [yPeer_yPeer]
      isplitl [Hrecv]; · iexact Hrecv
      iapply (opened_kind 1 d); iexact Hop
    · iexact Hry
  iintro HO
  iapply (Rounds.wp_signal 𝒱 ER (talkRd m) (d : Thread nD τ) none (dst := (xPeer d : Thread nD τ)) (sem := barSem) (r := 0) (d := true) (κ := K (barCell (xPeer d)))
      (by rw [duties_bar]; decide) (amount_bar m (xPeer d) true) () (passDue d chunks + sendDue d chunks) rfl)
    $$ [HO Htx Hrx Hout]
  · isplitr; · iexact Hinvx
    isplitl [HO]; · iexact HO
    isplitl [Htx]; · iexact Htx
    isplitl [Hout]
    · rw [payload_bar]; unfold barPay; rw [xPeer_xPeer]
      isplitl [Hout]; · iexact Hout
      iapply (opened_kind 3 d); iexact Hop
    · iexact Hrx
  iintro HO
  iapply (Rounds.wp_wait_rest_token 𝒱 ER (talkRd m) (d : Thread nD τ) none (κ := K (barCell d))
      (wpE_semWait_eq 𝒱 (d : Thread nD τ) none Set.univ) (Set.mem_univ _) () (O := passDue d chunks + sendDue d chunks) (W := W) (R := 0) (m := 0) (T := ∅)
      ((Nat.zero_add 2).trans (expect_bar m d).symm)) $$ [Hc HO Hat]
  · isplitr; · iexact Hinv
    isplitl [Hc]; · iexact Hc
    isplitl [HO]; · iexact HO
    isplitr; · iapply (mayWait_bar d); iexact Hlev
    iexact Hat
  iintro ⟨HO, Hat, -, Hpay⟩
  ihave Hp := (Entails.of_eq (rest_bar m d)) $$ Hpay
  icases Hp with ⟨Hpy, Hpx⟩
  rw [wp_ret]
  imod (close m (K (barCell d)) (barCell d)) $$ [Hat] with Hv
  · isplitr; · iexact Hinv
    iexact Hat
  imodintro
  isplitl [Hv]; · iexact Hv
  isplitl [Hpy]; · iexact Hpy
  isplitl [Hpx]; · iexact Hpx
  iexists _; iexact HO

/-! ## Sending -/

def sendPre (r : Fin 16) : sProp 𝕄 :=
  iprop(sendPts m d r ∗ recvPts (yPeer d) r (V m (yPeer d) main_v3_1) ∗ reached ER (cell 1 r (yPeer d)) 0
    ∗ dutyTok ER (cell 0 r d) 0 false ∗ dutyTok ER (cell 1 r (yPeer d)) 0 false)
def sendPost (r : Fin 16) : sProp 𝕄 := cred (tallyAt (cell 0 r d) () N)
def sendKeep (rs : List (Fin 16)) : sProp 𝕄 :=
  iprop(ctx m K d ∗ ∃ W, owes (d : Thread nD τ) (passDue d chunks + sendDue d rs) W)

theorem send_lands (r : Fin 16) :
    ((recvChunk r).view.loc (yPeer d : Thread nD τ) ↦[(recvChunk r).view.set]{fullShare}
        ((recvChunk r).view.write (Elt F) (V m (yPeer d) main_v3_1) ((pSend d r).view.read (Elt F) (V m d main_v1)) Finset.univ) : sProp 𝕄)
      ⊢ copyPay m (yPeer d) (1 : Fin 4).val r := by
  rw [copyPay_1]
  have h := recv_landed m (yPeer d) r (V m (yPeer d) main_v3_1)
  rw [yPeer_yPeer] at h
  exact Entails.of_eq (pointsTo_congr h)

theorem send_leaves (r : Fin 16) :
    ((pSend d r).view.loc (d : Thread nD τ) ↦[(pSend d r).view.set]{fullShare} V m d main_v1 : sProp 𝕄) ⊢ copyPay m d (0 : Fin 4).val r :=
  Entails.of_eq (copyPay_0 m d r).symm

theorem due_cons (r : Fin 16) (rs : List (Fin 16)) :
    passDue d chunks + sendDue d (r :: rs) = (passDue d chunks + sendDue d rs) + tallyAt (cell 1 r (yPeer d)) () N :=
  (add_assoc (G := CellTallies nD τ sig Unit) _ _ _).symm

theorem send_step (r : Fin 16) (rs : List (Fin 16)) :
    iprop(sendPre m d r ∗ sendKeep m K d (r :: rs))
      ⊢ wp frame (wpE (defs₀ (F := F)) 𝒱 d none) Set.univ (sendStep d r) (fun _ => iprop(sendPost d r ∗ sendKeep m K d rs)) := by
  unfold sendPre sendPost sendKeep sendStep sendPts recvPts
  rw [due_cons]
  iintro ⟨⟨Hs, Hd, Hr, Ht, Ht'⟩, #Hctx, ⟨%W, HO⟩⟩
  iapply (wp_sendCell m 𝒱 K d (yPeer d) 0 1 r (ySendSem_eq r) (yRecvSem_eq r) (credit_recv r) (src := pSend d r) (dst := recvChunk r) (fs := V m d main_v1) (fd := V m (yPeer d) main_v3_1)
    (passDue d chunks + sendDue d rs) W (send_leaves m d r) (send_lands m d r)) $$ [Hs Hd HO Ht Ht' Hr]
  · isplitr; · iexact Hctx
    isplitl [Hs]; · iexact Hs
    isplitl [Hd]; · iexact Hd
    isplitl [HO]; · iexact HO
    isplitl [Ht]; · iexact Ht
    isplitl [Ht']; · iexact Ht'
    iexact Hr
  iintro ⟨Hc, HO⟩
  rw [wp_ret]
  imodintro
  isplitl [Hc]; · iexact Hc
  isplitr; · iexact Hctx
  iexists W; iexact HO

/-! ## Gathering the `x` peer's rows -/

def gatherPre (r : Fin 16) : sProp 𝕄 := iprop(atPos ER (cell 3 r d) 0 ∅ 0 ∗ cred (tallyAt (cell 3 r d) () N))
def gatherPost (r : Fin 16) : sProp 𝕄 := iprop(outPts d (xPeer d) r (outFinal m d) ∗ semVal (cell 3 r d) 0)
/-- Nothing is owed any more. -/
def idle (_ : List (Fin 16)) : sProp 𝕄 := iprop(ctx m K d ∗ ∃ W, owes (d : Thread nD τ) (0 : CellTallies nD τ sig Unit) W)

theorem gather_step (r : Fin 16) (rs : List (Fin 16)) :
    iprop(gatherPre (F := F) d r ∗ idle m K d (r :: rs))
      ⊢ wp frame (wpE (defs₀ (F := F)) 𝒱 d none) Set.univ (gatherStep d r) (fun _ => iprop(gatherPost m d r ∗ idle m K d rs)) := by
  unfold gatherPre gatherPost idle gatherStep
  iintro ⟨⟨Hat, Hc⟩, #Hctx, ⟨%W, HO⟩⟩
  iapply (wp_waitCell m 𝒱 K d 3 r (xRecvSem_eq r) (credit_theirs d r) 0 W) $$ [Hat Hc HO]
  · isplitr; · iexact Hctx
    isplitl [Hc]; · iexact Hc
    isplitl [Hat]; · iexact Hat
    isplitl [HO]; · iexact HO
    rw [MayWait_zero]; iempintro
  iintro ⟨HO, Hv, Hp⟩
  ihave Hp := (Entails.of_eq (copyPay_3 m d r)) $$ Hp
  rw [wp_ret]
  imodintro
  isplitl [Hp Hv]; · isplitl [Hp] <;> iassumption
  isplitr; · iexact Hctx
  iexists _; iexact HO

/-! ## Draining this device's own sends -/

def drainPre (r : Fin 16) : sProp 𝕄 :=
  iprop(atPos ER (cell 0 r d) 0 ∅ 0 ∗ cred (tallyAt (cell 0 r d) () N) ∗ atPos ER (cell 2 r d) 0 ∅ 0 ∗ cred (tallyAt (cell 2 r d) () N))
def drainPost (r : Fin 16) : sProp 𝕄 :=
  iprop(sendPts m d r ∗ semVal (cell 0 r d) 0 ∗ outPts d d r (outFinal m d) ∗ semVal (cell 2 r d) 0)

theorem drain_step (r : Fin 16) (rs : List (Fin 16)) :
    iprop(drainPre (F := F) d r ∗ idle m K d (r :: rs))
      ⊢ wp frame (wpE (defs₀ (F := F)) 𝒱 d none) Set.univ (drainStep d r) (fun _ => iprop(drainPost m d r ∗ idle m K d rs)) := by
  unfold drainPre drainPost idle drainStep
  iintro ⟨⟨Hat, Hc, Hat', Hc'⟩, #Hctx, ⟨%W, HO⟩⟩
  iapply (wp_waitCell m 𝒱 K d 0 r (ySendSem_eq r) (credit_send d r) 0 W) $$ [Hat Hc HO]
  · isplitr; · iexact Hctx
    isplitl [Hc]; · iexact Hc
    isplitl [Hat]; · iexact Hat
    isplitl [HO]; · iexact HO
    rw [MayWait_zero]; iempintro
  iintro ⟨HO, Hv, Hp⟩
  iapply (wp_waitCell m 𝒱 K d 2 r (xSendSem_eq r) (credit_mine d r) 0 _) $$ [Hat' Hc' HO]
  · isplitr; · iexact Hctx
    isplitl [Hc']; · iexact Hc'
    isplitl [Hat']; · iexact Hat'
    isplitl [HO]; · iexact HO
    rw [MayWait_zero]; iempintro
  iintro ⟨HO, Hv', Hp'⟩
  ihave Hp := (Entails.of_eq (copyPay_0 m d r)) $$ Hp
  ihave Hp' := (Entails.of_eq (copyPay_2 m d r)) $$ Hp'
  rw [wp_ret]
  imodintro
  isplitl [Hp Hv Hp' Hv']
  · isplitl [Hp]; · iexact Hp
    isplitl [Hv]; · iexact Hv
    isplitl [Hp'] <;> iassumption
  isplitr; · iexact Hctx
  iexists _; iexact HO

end Cert.KernelIdeal.Own

end
-- ==== Proof.KernelIdeal.Sweep.lean ====
/-
  One rule for a sweep over the row chunks: what one step takes and leaves, together with the state threaded through
  the steps, gives what the whole sweep takes and leaves. The threaded state is indexed by the chunks still to come.
-/
module

public import proofs.«01_k».proof.Proof.KernelIdeal.Program

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
variable {U : Type} [URA U]

local notation "𝕄" => MT nD τ sig Unit (Elt F) ℕ U ℕ

/-- The conjunction of a family along a list. -/
def along (Φ : Fin 16 → sProp 𝕄) : List (Fin 16) → sProp 𝕄
  | [] => iprop(emp)
  | r :: rs => iprop(Φ r ∗ along Φ rs)

/-- Along all the chunks it is the conjunction over every chunk. -/
theorem along_chunks (Φ : Fin 16 → sProp 𝕄) : along Φ chunks = bigSep Finset.univ Φ := by
  have hl : ∀ l : List (Fin 16), l.Nodup → along Φ l = bigSep l.toFinset Φ := by
    intro l
    induction l with
    | nil => intro _; rw [List.toFinset_nil, bigSep_empty]; rfl
    | cons r rs ih =>
      intro hn
      rw [List.nodup_cons] at hn
      rw [List.toFinset_cons, bigSep_insert (by simpa using hn.1), ← ih hn.2]
      rfl
  rw [hl chunks (by decide)]
  exact congrArg (fun s => bigSep s Φ) (by decide)

/-- The sweep rule, along a list. -/
theorem wp_sweep_along (𝒱 : Variants) (d : Dev nD) (f : Fin 16 → Prog (Eff F) PUnit) (Pre Post : Fin 16 → sProp 𝕄)
    (M : List (Fin 16) → sProp 𝕄)
    (hstep : ∀ r rs, iprop(Pre r ∗ M (r :: rs)) ⊢ wp frame (wpE (defs₀ (F := F)) 𝒱 d none) Set.univ (f r) (fun _ => iprop(Post r ∗ M rs))) :
    ∀ rs, iprop(along Pre rs ∗ M rs) ⊢ wp frame (wpE (defs₀ (F := F)) 𝒱 d none) Set.univ (sweep f rs) (fun _ => iprop(along Post rs ∗ M []))
  | [] => by
    show _ ⊢ wp frame (wpE (defs₀ (F := F)) 𝒱 d none) Set.univ (Prog.ret PUnit.unit) _
    rw [wp_ret]
    iintro H; imodintro; iexact H
  | r :: rs => by
    show _ ⊢ wp frame (wpE (defs₀ (F := F)) 𝒱 d none) Set.univ ((f r) >>= fun _ => sweep f rs) _
    rw [wp_bind]
    show iprop((Pre r ∗ along Pre rs) ∗ M (r :: rs)) ⊢ _
    iintro ⟨⟨Hp, Hps⟩, HM⟩
    iapply (wp_wand_r frame (wpE (defs₀ (F := F)) 𝒱 d none) Set.univ (Q := fun _ => iprop(Post r ∗ M rs)))
    isplitl [Hp HM]
    · iapply (hstep r rs)
      isplitl [Hp] <;> iassumption
    iintro %a ⟨Hq, HM⟩
    iapply (wp_wand_r frame (wpE (defs₀ (F := F)) 𝒱 d none) Set.univ (Q := fun _ => iprop(along Post rs ∗ M [])))
    isplitl [Hps HM]
    · iapply (wp_sweep_along 𝒱 d f Pre Post M hstep rs)
      isplitl [Hps] <;> iassumption
    iintro %b ⟨Hqs, HM⟩
    isplitr [HM]
    · iapply (show iprop(Post r ∗ along Post rs) ⊢ along Post (r :: rs) from .rfl)
      isplitl [Hq] <;> iassumption
    iexact HM

/-- The sweep rule over all the chunks. -/
theorem wp_sweep (𝒱 : Variants) (d : Dev nD) (f : Fin 16 → Prog (Eff F) PUnit) (Pre Post : Fin 16 → sProp 𝕄)
    (M : List (Fin 16) → sProp 𝕄)
    (hstep : ∀ r rs, iprop(Pre r ∗ M (r :: rs)) ⊢ wp frame (wpE (defs₀ (F := F)) 𝒱 d none) Set.univ (f r) (fun _ => iprop(Post r ∗ M rs))) :
    iprop(bigSep Finset.univ Pre ∗ M chunks)
      ⊢ wp frame (wpE (defs₀ (F := F)) 𝒱 d none) Set.univ (sweep f chunks) (fun _ => iprop(bigSep Finset.univ Post ∗ M [])) := by
  rw [← along_chunks, ← along_chunks]
  exact wp_sweep_along 𝒱 d f Pre Post M hstep chunks

end Cert.KernelIdeal.Own

end
-- ==== Proof.KernelIdeal.Body.lean ====
/-
  The whole body: the handshake, then the four sweeps, each step's resources gathered over the chunks.
-/
module

public import proofs.«01_k».proof.Proof.KernelIdeal.Fetch
public import proofs.«01_k».proof.Proof.KernelIdeal.Steps
public import proofs.«01_k».proof.Proof.KernelIdeal.Sweep

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (𝒱 : Variants) (K : GSem nD τ sig → ℕ) (d : Dev nD)

/-- What the sending of a chunk has from the start. -/
def sendHave (r : Fin 16) : sProp 𝕄 :=
  iprop(sendPts m d r ∗ dutyTok ER (cell 0 r d) 0 false ∗ dutyTok ER (cell 1 r (yPeer d)) 0 false)
/-- What the reducing of a chunk has from the start. -/
def chunkHave (r : Fin 16) : sProp 𝕄 :=
  iprop(minePts m d r ∗ atPos ER (cell 1 r d) 0 ∅ 0 ∗ cred (tallyAt (cell 1 r d) () N) ∗ outPts d d r (V m d main_v3_0)
    ∗ dutyTok ER (cell 2 r d) 0 false ∗ dutyTok ER (cell 3 r (xPeer d)) 0 false)
/-- What the drain of a chunk has from the start. -/
def drainHave (r : Fin 16) : sProp 𝕄 := iprop(atPos ER (cell 0 r d) 0 ∅ 0 ∗ atPos ER (cell 2 r d) 0 ∅ 0)
/-- What a reduced chunk leaves for the end. -/
def chunkLeft (r : Fin 16) : sProp 𝕄 := iprop(minePts m d r ∗ recvPts d r (recvFinal m d) ∗ semVal (cell 1 r d) 0)

/-- What the body starts from. -/
def bodyPre : sProp 𝕄 :=
  iprop(meetPre m K d ∗ (bigSep Finset.univ fun r => sendHave m d r) ∗ (bigSep Finset.univ fun r => chunkHave m d r)
    ∗ (bigSep Finset.univ fun r => gatherPre d r) ∗ (bigSep Finset.univ fun r => drainHave d r) ∗ tools m d)
/-- What the body leaves. -/
def bodyPost : sProp 𝕄 :=
  iprop(semVal (barCell d) 0 ∗ (bigSep Finset.univ fun r => drainPost m d r) ∗ (bigSep Finset.univ fun r => chunkLeft m d r)
    ∗ (bigSep Finset.univ fun r => gatherPost m d r) ∗ tools m d ∗ ∃ W, owes (d : Thread nD τ) (0 : CellTallies nD τ sig Unit) W)

theorem barPay_false : barPay m d false
    = iprop((bigSep Finset.univ fun r => recvPts (yPeer d) r (V m (yPeer d) main_v3_1)) ∗ bigSep Finset.univ fun r => reached ER (cell 1 r (yPeer d)) 0) := rfl
theorem barPay_true : barPay m d true
    = iprop((bigSep Finset.univ fun r => outPts (xPeer d) d r (V m (xPeer d) main_v3_0)) ∗ bigSep Finset.univ fun r => reached ER (cell 3 r (xPeer d)) 0) := rfl

/-- With the `y` peer's chunk granted, a send has what it needs. -/
theorem grant_send_one (r : Fin 16) :
    iprop(sendHave m d r ∗ recvPts (yPeer d) r (V m (yPeer d) main_v3_1) ∗ reached ER (cell 1 r (yPeer d)) 0) ⊢ sendPre m d r := by
  unfold sendHave sendPre
  iintro ⟨⟨Hs, Ht, Ht'⟩, Hd, Hr⟩
  isplitl [Hs]; · iexact Hs
  isplitl [Hd]; · iexact Hd
  isplitl [Hr]; · iexact Hr
  isplitl [Ht] <;> iassumption

theorem grant_send :
    iprop((bigSep Finset.univ fun r => sendHave m d r) ∗ barPay m d false) ⊢ (bigSep Finset.univ fun r => sendPre m d r : sProp 𝕄) := by
  rw [barPay_false, ← bigSep_sep', ← bigSep_sep']
  exact bigSep_mono fun r _ => grant_send_one m d r

/-- With the `x` peer's chunk granted, a chunk has what it needs. -/
theorem grant_chunk_one (r : Fin 16) :
    iprop(chunkHave m d r ∗ outPts (xPeer d) d r (V m (xPeer d) main_v3_0) ∗ reached ER (cell 3 r (xPeer d)) 0) ⊢ chunkPre m d r := by
  unfold chunkHave chunkPre
  iintro ⟨⟨Hp, Hat, Hc, Ho, Ht, Ht'⟩, Ho', Hr⟩
  isplitl [Hp]; · iexact Hp
  isplitl [Hat]; · iexact Hat
  isplitl [Hc]; · iexact Hc
  isplitl [Ho]; · iexact Ho
  isplitl [Ho']; · iexact Ho'
  isplitl [Hr]; · iexact Hr
  isplitl [Ht] <;> iassumption

theorem grant_chunk :
    iprop((bigSep Finset.univ fun r => chunkHave m d r) ∗ barPay m d true) ⊢ (bigSep Finset.univ fun r => chunkPre m d r : sProp 𝕄) := by
  rw [barPay_true, ← bigSep_sep', ← bigSep_sep']
  exact bigSep_mono fun r _ => grant_chunk_one m d r

/-- The credits a send and a passing on left, to the drain. -/
theorem grant_drain_one (r : Fin 16) :
    iprop(drainHave d r ∗ sendPost d r ∗ chunkPost m d r) ⊢ iprop(drainPre d r ∗ chunkLeft m d r) := by
  unfold drainHave sendPost chunkPost drainPre chunkLeft
  iintro ⟨⟨Hat, Hat'⟩, Hc, Hp, Hrecv, Hv, Hc'⟩
  isplitr [Hp Hrecv Hv]
  · isplitl [Hat]; · iexact Hat
    isplitl [Hc]; · iexact Hc
    isplitl [Hat'] <;> iassumption
  isplitl [Hp]; · iexact Hp
  isplitl [Hrecv] <;> iassumption

theorem grant_drain :
    iprop((bigSep Finset.univ fun r => drainHave (F := F) d r) ∗ (bigSep Finset.univ fun r => sendPost d r) ∗ (bigSep Finset.univ fun r => chunkPost m d r))
      ⊢ iprop((bigSep Finset.univ fun r => drainPre d r) ∗ bigSep Finset.univ fun r => chunkLeft m d r) := by
  rw [← bigSep_sep' (Φ := fun r => sendPost (F := F) d r), ← bigSep_sep', ← bigSep_sep']
  exact bigSep_mono fun r _ => grant_drain_one m d r

theorem due_nil : passDue d chunks + sendDue d [] = passDue d chunks := add_zero (M := CellTallies nD τ sig Unit) _

theorem meetPre_ctx : meetPre m K d ⊢ ctx m K d := by unfold meetPre; exact sep_elim_left

/-- The handshake and the sends. -/
theorem first_half :
    iprop(meetPre m K d ∗ (bigSep Finset.univ fun r => sendHave m d r))
      ⊢ wp frame (wpE (defs₀ (F := F)) 𝒱 d none) Set.univ (meetStep d >>= fun _ => sweep (sendStep d) chunks)
        (fun _ => iprop(semVal (barCell d) 0 ∗ barPay m d true ∗ (bigSep Finset.univ fun r => sendPost d r)
          ∗ ∃ W, owes (d : Thread nD τ) (passDue d chunks) W)) := by
  rw [wp_bind]
  iintro ⟨Hm, Hs⟩
  ihave #Hctx := (meetPre_ctx m K d) $$ Hm
  iapply (wp_wand_r frame (wpE (defs₀ (F := F)) 𝒱 d none) Set.univ (Q := fun _ => meetPost m d))
  isplitl [Hm]; · iapply (meet_step m 𝒱 K d); iexact Hm
  iintro %u
  unfold meetPost
  iintro ⟨Hv, Hy, Hx, HO⟩
  ihave Hs := (grant_send m d) $$ [Hs Hy]
  · isplitl [Hs] <;> iassumption
  iapply (wp_wand_r frame (wpE (defs₀ (F := F)) 𝒱 d none) Set.univ (Q := fun _ => iprop((bigSep Finset.univ fun r => sendPost d r) ∗ sendKeep m K d [])))
  isplitl [Hs HO]
  · iapply (wp_sweep 𝒱 d (sendStep d) (fun r => sendPre m d r) (fun r => sendPost d r) (sendKeep m K d) (send_step m 𝒱 K d))
    isplitl [Hs]; · iexact Hs
    unfold sendKeep
    isplitr; · iexact Hctx
    iexact HO
  iintro %u
  unfold sendKeep
  rw [due_nil]
  iintro ⟨Hc, -, HO⟩
  isplitl [Hv]; · iexact Hv
  isplitl [Hx]; · iexact Hx
  isplitl [Hc]; · iexact Hc
  iexact HO

/-- The chunks, the gathering and the draining. -/
theorem second_half :
    iprop(ctx m K d ∗ (bigSep Finset.univ fun r => chunkPre m d r) ∗ (bigSep Finset.univ fun r => sendPost d r)
        ∗ (bigSep Finset.univ fun r => gatherPre d r) ∗ (bigSep Finset.univ fun r => drainHave d r) ∗ tools m d
        ∗ ∃ W, owes (d : Thread nD τ) (passDue d chunks) W)
      ⊢ wp frame (wpE (defs₀ (F := F)) 𝒱 d none) Set.univ
        (sweep (chunkStep d) chunks >>= fun _ => sweep (gatherStep d) chunks >>= fun _ => sweep (drainStep d) chunks)
        (fun _ => iprop((bigSep Finset.univ fun r => drainPost m d r) ∗ (bigSep Finset.univ fun r => chunkLeft m d r)
          ∗ (bigSep Finset.univ fun r => gatherPost m d r) ∗ tools m d ∗ ∃ W, owes (d : Thread nD τ) (0 : CellTallies nD τ sig Unit) W)) := by
  rw [wp_bind]
  iintro ⟨#Hctx, Hp, Hc, Hg, Hd, Ht, HO⟩
  iapply (wp_wand_r frame (wpE (defs₀ (F := F)) 𝒱 d none) Set.univ (Q := fun _ => iprop((bigSep Finset.univ fun r => chunkPost m d r) ∗ chunkKeep m K d [])))
  isplitl [Hp Ht HO]
  · iapply (wp_sweep 𝒱 d (chunkStep d) (fun r => chunkPre m d r) (fun r => chunkPost m d r) (chunkKeep m K d) (chunk_step m 𝒱 K d))
    isplitl [Hp]; · iexact Hp
    unfold chunkKeep
    isplitr; · iexact Hctx
    isplitl [Ht] <;> iassumption
  iintro %u
  unfold chunkKeep
  iintro ⟨Hp, -, Ht, HO⟩
  ihave Hd := (grant_drain m d) $$ [Hd Hc Hp]
  · isplitl [Hd]; · iexact Hd
    isplitl [Hc] <;> iassumption
  icases Hd with ⟨Hd, Hl⟩
  rw [wp_bind]
  iapply (wp_wand_r frame (wpE (defs₀ (F := F)) 𝒱 d none) Set.univ (Q := fun _ => iprop((bigSep Finset.univ fun r => gatherPost m d r) ∗ idle m K d [])))
  isplitl [Hg HO]
  · iapply (wp_sweep 𝒱 d (gatherStep d) (fun r => gatherPre d r) (fun r => gatherPost m d r) (idle m K d) (gather_step m 𝒱 K d))
    isplitl [Hg]; · iexact Hg
    unfold idle
    isplitr; · iexact Hctx
    iexact HO
  iintro %u
  unfold idle
  iintro ⟨Hg, -, HO⟩
  iapply (wp_wand_r frame (wpE (defs₀ (F := F)) 𝒱 d none) Set.univ (Q := fun _ => iprop((bigSep Finset.univ fun r => drainPost m d r) ∗ idle m K d [])))
  isplitl [Hd HO]
  · iapply (wp_sweep 𝒱 d (drainStep d) (fun r => drainPre d r) (fun r => drainPost m d r) (idle m K d) (drain_step m 𝒱 K d))
    isplitl [Hd]; · iexact Hd
    unfold idle
    isplitr; · iexact Hctx
    iexact HO
  iintro %u
  unfold idle
  iintro ⟨Hd, -, HO⟩
  isplitl [Hd]; · iexact Hd
  isplitl [Hl]; · iexact Hl
  isplitl [Hg]; · iexact Hg
  isplitl [Ht] <;> iassumption

/-- The two halves, one after the other. -/
theorem body_split (d : Dev nD) : ((meetStep d).bind fun _ =>
    (sweep (sendStep d) chunks).bind fun _ =>
    (sweep (chunkStep d) chunks).bind fun _ =>
    (sweep (gatherStep d) chunks).bind fun _ =>
    sweep (drainStep d) chunks : Prog (Eff F) PUnit)
    = (meetStep d >>= fun _ => sweep (sendStep d) chunks) >>= fun _ =>
      (sweep (chunkStep d) chunks >>= fun _ => sweep (gatherStep d) chunks >>= fun _ => sweep (drainStep d) chunks) := by
  rw [bind_assoc]; rfl

/-- The body, from what the launch hands it. -/
theorem body_runs : bodyPre m K d ⊢ wp frame (wpE (defs₀ (F := F)) 𝒱 d none) Set.univ (body (F := F)) (fun _ => bodyPost m d) := by
  unfold body bodyPre bodyPost
  show _ ⊢ wp frame (wpE (defs₀ (F := F)) 𝒱 d none) Set.univ (.op .deviceId fun d => (meetStep d).bind fun _ =>
    (sweep (sendStep d) chunks).bind fun _ =>
    (sweep (chunkStep d) chunks).bind fun _ =>
    (sweep (gatherStep d) chunks).bind fun _ =>
    sweep (drainStep d) chunks) _
  iintro ⟨Hm, Hs, Hc, Hg, Hd, Ht⟩
  ihave #Hctx := (meetPre_ctx m K d) $$ Hm
  rw [wp_deviceId, body_split, wp_bind]
  iapply (wp_wand_r frame (wpE (defs₀ (F := F)) 𝒱 d none) Set.univ (Q := fun _ => iprop(semVal (barCell d) 0 ∗ barPay m d true ∗ (bigSep Finset.univ fun r => sendPost d r)
          ∗ ∃ W, owes (d : Thread nD τ) (passDue d chunks) W)))
  isplitl [Hm Hs]
  · iapply (first_half m 𝒱 K d); isplitl [Hm] <;> iassumption
  iintro %u ⟨Hv, Hx, Hk, HO⟩
  ihave Hc := (grant_chunk m d) $$ [Hc Hx]
  · isplitl [Hc] <;> iassumption
  iapply (wp_wand_r frame (wpE (defs₀ (F := F)) 𝒱 d none) Set.univ (Q := fun _ => iprop((bigSep Finset.univ fun r => drainPost m d r) ∗ (bigSep Finset.univ fun r => chunkLeft m d r)
          ∗ (bigSep Finset.univ fun r => gatherPost m d r) ∗ tools m d ∗ ∃ W, owes (d : Thread nD τ) (0 : CellTallies nD τ sig Unit) W)))
  isplitl [Hc Hk Hg Hd Ht HO]
  · iapply (second_half m 𝒱 K d)
    isplitr; · iexact Hctx
    isplitl [Hc]; · iexact Hc
    isplitl [Hk]; · iexact Hk
    isplitl [Hg]; · iexact Hg
    isplitl [Hd]; · iexact Hd
    isplitl [Ht] <;> iassumption
  iintro %u H
  isplitl [Hv] <;> iassumption

end Cert.KernelIdeal.Own

end
-- ==== Proof.KernelIdeal.Buffers.lean ====
/-
  The region's buffers: those the body addresses itself, cut into chunks on the way in and whole again on the way out.
-/
module

public import proofs.«01_k».proof.Proof.KernelIdeal.Body
public import Idealize.ShloMosaic.Lib.Ring.FamCut
public import Idealize.ShloMosaic.Lib.Pipeline.RegionTalk

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (d : Dev nD)

/-- The launch contents of a device's buffers. -/
def V₀ : Valuation τ sig (Elt F) := fun b => m (d, b)
/-- The contents the region finds. -/
def V₁ : Valuation τ sig (Elt F) := StableHlo.after hostOps0 (V₀ m d)
/-- The contents the region leaves: the result and the receive buffer filled. -/
def V₂ : Valuation τ sig (Elt F) :=
  Function.update (Function.update (V₁ m d) (Proc.devRef .tc main_v3_0) (outFinal m d)) (Proc.devRef .tc main_v3_1) (recvFinal m d)

theorem V₂_recv : V₂ m d (Proc.devRef .tc main_v3_1) = recvFinal m d := Function.update_self ..
theorem V₂_out : V₂ m d (Proc.devRef .tc main_v3_0) = outFinal m d :=
  (Function.update_of_ne (by decide) ..).trans (Function.update_self ..)
theorem V₂_other (b : DevRef τ sig) (h : b ≠ Proc.devRef .tc main_v3_0) (h' : b ≠ Proc.devRef .tc main_v3_1) : V₂ m d b = V₁ m d b :=
  (Function.update_of_ne h' ..).trans (Function.update_of_ne h ..)

/-- Every buffer that outlives the region. -/
abbrev bufs : Finset (DevRef τ sig) := Pipeline.ucRefs τ sig
/-- Those the body addresses itself. -/
def handled : Finset (DevRef τ sig) := {Proc.devRef .tc main_v1, Proc.devRef .tc main_v3_0, Proc.devRef .tc main_v3_1}
/-- Those no window stages. -/
def others : Finset (DevRef τ sig) := bufs \ Pipeline.arrRefs (τ := τ) spec0

theorem handled_sub : handled ⊆ others := by decide
theorem arr_sub : Pipeline.arrRefs (τ := τ) spec0 ⊆ bufs := by decide

/-- A whole buffer. -/
def pt (b : Ref sig .tc) (f : Buf (Elt F) ((d : Thread nD τ).loc b)) : sProp 𝕄 := ((d : Thread nD τ).loc b) ↦{fullShare} f

theorem handled_eq (W : Valuation τ sig (Elt F)) : (StableHlo.held (d : Thread nD τ) handled W : sProp 𝕄)
    = iprop(pt d main_v1 (W (Proc.devRef .tc main_v1)) ∗ pt d main_v3_0 (W (Proc.devRef .tc main_v3_0)) ∗ pt d main_v3_1 (W (Proc.devRef .tc main_v3_1))) := by
  unfold StableHlo.held
  rw [bigSep_eq_bigSepL_of_eq [Proc.devRef .tc main_v1, Proc.devRef .tc main_v3_0, Proc.devRef .tc main_v3_1] (by decide) (by decide)]
  rfl

/-! ## Into chunks and back -/

/-- A family over the two halves, half by half. -/
theorem halves (Φ : Fin 2 × Fin 16 → sProp 𝕄) :
    bigSep Finset.univ Φ = iprop((bigSep Finset.univ fun r => Φ (0, r)) ∗ bigSep Finset.univ fun r => Φ (1, r)) := by
  rw [bigSep_univ_prod, bigSep_fin_two]; rfl

/-- The rows of `p` the body does not touch. -/
def pRest : sProp 𝕄 := ((d : Thread nD τ).loc main_v1) ↦[Ring.restOf (ℓ := (d : Thread nD τ).loc main_v1) (pFam d)]{fullShare} V m d main_v1

theorem p_eq : pt d main_v1 (V m d main_v1)
    = iprop(((bigSep Finset.univ fun r => sendPts m d r) ∗ bigSep Finset.univ fun r => minePts m d r) ∗ pRest m d) := by
  unfold pt pRest
  have h := pointsTo_split_subset (Ix := Unit) (Name := ℕ) (U := UU) (Lvl := ℕ) (q := fullShare) (f := V m d main_v1)
    (ℓ := (d : Thread nD τ).loc main_v1) (I := Finset.univ.biUnion (pFam d)) (S := Finset.univ) (Finset.subset_univ _)
  rw [BI.equiv_iff.mp ⟨h.1, h.2⟩,
    pointsTo_biUnion (ℓ := (d : Thread nD τ).loc main_v1) Finset.univ (pFam d) (fun b _ b' _ h => pFam_disjoint d b b' h), halves]
  rfl

theorem out_eq (f : Vec F S4096x4096 .f32) : pt d main_v3_0 f
    = iprop((bigSep Finset.univ fun r => outPts d d r f) ∗ bigSep Finset.univ fun r => outPts d (xPeer d) r f) := by
  unfold pt
  rw [Ring.pointsTo_blocks (ℓ := (d : Thread nD τ).loc main_v3_0) (outFam d) (outFam_disjoint d) (outFam_cover d), halves]
  rfl

theorem recv_eq (f : Vec F S2048x4096 .f32) : pt d main_v3_1 f = bigSep Finset.univ fun r => recvPts d r f := by
  unfold pt
  rw [Ring.pointsTo_blocks (ℓ := (d : Thread nD τ).loc main_v3_1) recvFam recvFam_disjoint recvFam_cover]
  rfl

/-! ## The scoped semaphores -/

/-- The region's own semaphores: the three of the local copies and the protocol's. -/
def osem : Fin 3 ⊕ (Fin 4 × Fin 16) → SemLoc sig
  | .inl j => .dma (localSem j)
  | .inr b => .dma (tsem b.1 b.2)

theorem osem_facts : Pipeline.OwnSemFacts spec0 osem := by decide +kernel

theorem ownSems_eq : (Pipeline.ownSems0 osem d : sProp 𝕄)
    = iprop((semVal (localCell 0 d) 0 ∗ semVal (localCell 1 d) 0 ∗ semVal (localCell 2 d) 0)
      ∗ bigSep Finset.univ fun b : Fin 4 × Fin 16 => semVal (cell b.1 b.2 d) 0) := by
  unfold Pipeline.ownSems0
  rw [bigSep_univ_sum]
  refine congrArg (fun P => iprop(P ∗ bigSep Finset.univ fun b : Fin 4 × Fin 16 => semVal (cell b.1 b.2 d) 0)) ?_
  exact bigSep_univ_eq_bigSepL [(0 : Fin 3), 1, 2] (by decide) (by decide) _

/-- A family over the four kinds of cells, kind by kind. -/
theorem kinds (Φ : Fin 4 × Fin 16 → sProp 𝕄) :
    bigSep Finset.univ Φ = iprop((bigSep Finset.univ fun r => Φ (0, r)) ∗ (bigSep Finset.univ fun r => Φ (1, r))
      ∗ (bigSep Finset.univ fun r => Φ (2, r)) ∗ bigSep Finset.univ fun r => Φ (3, r)) := by
  rw [bigSep_univ_prod]
  exact bigSep_univ_eq_bigSepL [(0 : Fin 4), 1, 2, 3] (by decide) (by decide) _

end Cert.KernelIdeal.Own

end
-- ==== Proof.KernelIdeal.Deal.lean ====
/-
  What enters the body and what leaves it, beside the buffers: the ghost state of the protocol, dealt to a device, opened, used up.
-/
module

public import proofs.«01_k».proof.Proof.KernelIdeal.Buffers

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (𝒱 : Variants) (K : GSem nD τ sig → ℕ) (d : Dev nD)

/-- The duties a device pays. -/
def tokens : sProp 𝕄 :=
  iprop(((bigSep Finset.univ fun r : Fin 16 => dutyTok ER (cell 0 r d) 0 false) ∗ (bigSep Finset.univ fun r : Fin 16 => dutyTok ER (cell 1 r (yPeer d)) 0 false)
      ∗ (bigSep Finset.univ fun r : Fin 16 => dutyTok ER (cell 2 r d) 0 false) ∗ (bigSep Finset.univ fun r : Fin 16 => dutyTok ER (cell 3 r (xPeer d)) 0 false))
    ∗ dutyTok ER (barCell (yPeer d)) 0 false ∗ dutyTok ER (barCell (xPeer d)) 0 true)
/-- The credit a device waits on from the start. -/
def credits : sProp 𝕄 :=
  iprop(cred (tallyAt (barCell d) () 2) ∗ (bigSep Finset.univ fun r : Fin 16 => cred (tallyAt (cell 1 r d) () N))
    ∗ bigSep Finset.univ fun r : Fin 16 => cred (tallyAt (cell 3 r d) () N))
/-- The peers' barrier cells are at their round. -/
def peersReady : sProp 𝕄 := iprop(reached ER (barCell (yPeer d)) 0 ∗ reached ER (barCell (xPeer d)) 0)

/-- What the launch keeps for a device: its copy cells not yet open. -/
def dealt : sProp 𝕄 :=
  iprop(invs m K ∗ peersReady d ∗ atPos ER (barCell d) 0 ∅ 0 ∗ (bigSep Finset.univ fun b : Fin 4 × Fin 16 => openTok ER (cell b.1 b.2 d)) ∗ tokens d)
/-- The same, its copy cells open. -/
def ready : sProp 𝕄 :=
  iprop(ctx m K d ∗ peersReady d ∗ atPos ER (barCell d) 0 ∅ 0 ∗ (bigSep Finset.univ fun b : Fin 4 × Fin 16 => atPos ER (cell b.1 b.2 d) 0 ∅ 0) ∗ tokens d)

def kept : sProp 𝕄 := iprop((∃ K, dealt m K d) ∗ credits d)
def entered : sProp 𝕄 :=
  iprop((∃ K, ready m K d) ∗ credits d ∗ semVal (localCell 0 d) 0 ∗ semVal (localCell 1 d) 0 ∗ semVal (localCell 2 d) 0)

/-- Opening one copy cell. -/
theorem open_one (b : Fin 4 × Fin 16) :
    iprop(invs m K ∗ (openTok ER (cell b.1 b.2 d) ∗ semVal (cell b.1 b.2 d) 0))
      ⊢ |={Set.univ}=> iprop(atPos ER (cell b.1 b.2 d) 0 ∅ 0 ∗ reached ER (cell b.1 b.2 d) 0) := by
  iintro ⟨#HI, Ho, Hv⟩
  ihave #Hinv := (invs_cell m K b.1 b.2 d) $$ HI
  iapply (Rounds.cell_open ER (talkRd m) (g := cell b.1 b.2 d) (Set.mem_univ (K (cell b.1 b.2 d))))
  isplitr; · iexact Hinv
  isplitl [Ho] <;> iassumption

/-- Opening them all. -/
theorem open_all :
    iprop(invs m K ∗ (bigSep Finset.univ fun b : Fin 4 × Fin 16 => openTok ER (cell b.1 b.2 d)) ∗ bigSep Finset.univ fun b : Fin 4 × Fin 16 => semVal (cell b.1 b.2 d) 0)
      ⊢ |={Set.univ}=> iprop((bigSep Finset.univ fun b : Fin 4 × Fin 16 => atPos ER (cell b.1 b.2 d) 0 ∅ 0) ∗ opened d) := by
  unfold opened
  rw [← bigSep_sep', ← bigSep_sep']
  exact (bigSep_with_persistent (R := invs m K) (Φ := fun b : Fin 4 × Fin 16 => iprop(openTok ER (cell b.1 b.2 d) ∗ semVal (cell b.1 b.2 d) 0))
    fun b _ => open_one m K d b).trans (bigSep_fupd _ _)

theorem enter : iprop(kept m d ∗ Pipeline.ownSems0 osem d ∗ levAts L lv) ⊢ (|={Set.univ}=> entered m d : sProp 𝕄) := by
  rw [ownSems_eq]
  unfold kept entered dealt ready ctx
  iintro ⟨⟨⟨%K, #HI, Hr, Hb, Ho, Ht⟩, Hc⟩, ⟨⟨Hv0, Hv1, Hv2⟩, Hv⟩, #Hlev⟩
  imod (open_all m K d) $$ [Ho Hv] with ⟨Ha, Hop⟩
  · isplitr; · iexact HI
    isplitl [Ho] <;> iassumption
  imodintro
  isplitr [Hc Hv0 Hv1 Hv2]
  · iexists K
    isplitl [Hop]
    · isplitr; · iexact HI
      isplitl [Hop]; · iexact Hop
      iexact Hlev
    isplitl [Hr]; · iexact Hr
    isplitl [Hb]; · iexact Hb
    isplitl [Ha] <;> iassumption
  isplitl [Hc]; · iexact Hc
  isplitl [Hv0]; · iexact Hv0
  isplitl [Hv1] <;> iassumption

/-! ## The conjunctions over chunks, family by family -/

theorem sendHave_all : (bigSep Finset.univ fun r => sendHave m d r) = iprop((bigSep Finset.univ fun r => sendPts m d r)
    ∗ (bigSep Finset.univ fun r : Fin 16 => dutyTok ER (cell 0 r d) 0 false) ∗ bigSep Finset.univ fun r : Fin 16 => dutyTok ER (cell 1 r (yPeer d)) 0 false) := by
  unfold sendHave; rw [bigSep_sep', bigSep_sep']
theorem chunkHave_all : (bigSep Finset.univ fun r => chunkHave m d r) = iprop((bigSep Finset.univ fun r => minePts m d r)
    ∗ (bigSep Finset.univ fun r : Fin 16 => atPos ER (cell 1 r d) 0 ∅ 0) ∗ (bigSep Finset.univ fun r : Fin 16 => cred (tallyAt (cell 1 r d) () N))
    ∗ (bigSep Finset.univ fun r => outPts d d r (V m d main_v3_0)) ∗ (bigSep Finset.univ fun r : Fin 16 => dutyTok ER (cell 2 r d) 0 false)
    ∗ bigSep Finset.univ fun r : Fin 16 => dutyTok ER (cell 3 r (xPeer d)) 0 false) := by
  unfold chunkHave; rw [bigSep_sep', bigSep_sep', bigSep_sep', bigSep_sep', bigSep_sep']
theorem gatherPre_all : (bigSep Finset.univ fun r => gatherPre (F := F) d r) = iprop((bigSep Finset.univ fun r : Fin 16 => atPos ER (cell 3 r d) 0 ∅ 0)
    ∗ bigSep Finset.univ fun r : Fin 16 => cred (tallyAt (cell 3 r d) () N)) := by
  unfold gatherPre; rw [bigSep_sep']
theorem drainHave_all : (bigSep Finset.univ fun r => drainHave (F := F) d r) = iprop((bigSep Finset.univ fun r : Fin 16 => atPos ER (cell 0 r d) 0 ∅ 0)
    ∗ bigSep Finset.univ fun r : Fin 16 => atPos ER (cell 2 r d) 0 ∅ 0) := by
  unfold drainHave; rw [bigSep_sep']
theorem drainPost_all : (bigSep Finset.univ fun r => drainPost m d r) = iprop((bigSep Finset.univ fun r => sendPts m d r)
    ∗ (bigSep Finset.univ fun r : Fin 16 => semVal (cell 0 r d) 0) ∗ (bigSep Finset.univ fun r => outPts d d r (outFinal m d))
    ∗ bigSep Finset.univ fun r : Fin 16 => semVal (cell 2 r d) 0) := by
  unfold drainPost; rw [bigSep_sep', bigSep_sep', bigSep_sep']
theorem chunkLeft_all : (bigSep Finset.univ fun r => chunkLeft m d r) = iprop((bigSep Finset.univ fun r => minePts m d r)
    ∗ (bigSep Finset.univ fun r => recvPts d r (recvFinal m d)) ∗ bigSep Finset.univ fun r : Fin 16 => semVal (cell 1 r d) 0) := by
  unfold chunkLeft; rw [bigSep_sep', bigSep_sep']
theorem gatherPost_all : (bigSep Finset.univ fun r => gatherPost m d r) = iprop((bigSep Finset.univ fun r => outPts d (xPeer d) r (outFinal m d))
    ∗ bigSep Finset.univ fun r : Fin 16 => semVal (cell 3 r d) 0) := by
  unfold gatherPost; rw [bigSep_sep']

/-! ## In and out -/

/-- The scratch buffers, at some contents. -/
def scratches : sProp 𝕄 := iprop(scratch d cc0_scratch0 ∗ scratch d cc0_scratch1 ∗ scratch d cc0_scratch2)

/-- From what the region hands over to what the body starts from. -/
theorem to_body :
    iprop(ready m K d ∗ credits d ∗ (semVal (localCell 0 d) 0 ∗ semVal (localCell 1 d) 0 ∗ semVal (localCell 2 d) 0)
        ∗ StableHlo.held (d : Thread nD τ) handled (V₁ m d) ∗ scratches d ∗ gPts m d ∗ ∃ W, owes (d : Thread nD τ) (O₀ d) W)
      ⊢ iprop(bodyPre m K d ∗ pRest m d) := by
  rw [handled_eq]
  show iprop(ready m K d ∗ credits d ∗ (semVal (localCell 0 d) 0 ∗ semVal (localCell 1 d) 0 ∗ semVal (localCell 2 d) 0)
        ∗ (pt d main_v1 (V m d main_v1) ∗ pt d main_v3_0 (V m d main_v3_0) ∗ pt d main_v3_1 (V m d main_v3_1))
        ∗ scratches d ∗ gPts m d ∗ ∃ W, owes (d : Thread nD τ) (O₀ d) W) ⊢ _
  rw [p_eq, out_eq, recv_eq]
  unfold bodyPre
  rw [sendHave_all, chunkHave_all, gatherPre_all, drainHave_all]
  unfold ready credits peersReady tokens scratches meetPre tools
  rw [kinds]
  iintro ⟨⟨Hctx, ⟨Hry, Hrx⟩, Hb, ⟨Ha0, Ha1, Ha2, Ha3⟩, ⟨Ht0, Ht1, Ht2, Ht3⟩, Hty, Htx⟩, ⟨Hcb, Hc1, Hc3⟩, ⟨Hv0, Hv1, Hv2⟩,
    ⟨⟨⟨Hs, Hm⟩, Hrest⟩, ⟨Ho, Ho'⟩, Hr⟩, ⟨Hx0, Hx1, Hx2⟩, Hg, HO⟩
  isplitr [Hrest]
  · isplitl [Hctx Hry Hrx Hb Hty Htx Hcb Ho' Hr HO]
    · isplitl [Hctx]; · iexact Hctx
      isplitl [Hb]; · iexact Hb
      isplitl [Hcb]; · iexact Hcb
      isplitl [Hry]; · iexact Hry
      isplitl [Hrx]; · iexact Hrx
      isplitl [Hty]; · iexact Hty
      isplitl [Htx]; · iexact Htx
      isplitl [Hr]; · iexact Hr
      isplitl [Ho'] <;> iassumption
    isplitl [Hs Ht0 Ht1]
    · isplitl [Hs]; · iexact Hs
      isplitl [Ht0] <;> iassumption
    isplitl [Hm Ha1 Hc1 Ho Ht2 Ht3]
    · isplitl [Hm]; · iexact Hm
      isplitl [Ha1]; · iexact Ha1
      isplitl [Hc1]; · iexact Hc1
      isplitl [Ho]; · iexact Ho
      isplitl [Ht2] <;> iassumption
    isplitl [Ha3 Hc3]
    · isplitl [Ha3] <;> iassumption
    isplitl [Ha0 Ha2]
    · isplitl [Ha0] <;> iassumption
    isplitl [Hx0]; · iexact Hx0
    isplitl [Hx1]; · iexact Hx1
    isplitl [Hx2]; · iexact Hx2
    isplitl [Hg]; · iexact Hg
    isplitl [Hv0]; · iexact Hv0
    isplitl [Hv1] <;> iassumption
  iexact Hrest

/-- From what the body leaves to what the region takes back. -/
theorem of_body :
    iprop(bodyPost m d ∗ pRest m d)
      ⊢ iprop(scratches d ∗ gPts m d ∗ StableHlo.held (d : Thread nD τ) handled (V₂ m d) ∗ Pipeline.ownSems0 osem d ∗ semVal (barCell d) 0
        ∗ ∃ W, owes (d : Thread nD τ) (0 : CellTallies nD τ sig Unit) W) := by
  rw [handled_eq, V₂_out, V₂_recv, V₂_other m d _ (by decide) (by decide), ownSems_eq, kinds]
  show _ ⊢ iprop(scratches d ∗ gPts m d ∗ (pt d main_v1 (V m d main_v1) ∗ pt d main_v3_0 (outFinal m d) ∗ pt d main_v3_1 (recvFinal m d)) ∗ _)
  rw [p_eq, out_eq, recv_eq]
  unfold bodyPost
  rw [drainPost_all, chunkLeft_all, gatherPost_all]
  unfold tools scratches
  iintro ⟨⟨Hb, ⟨Hs, Hv0, Ho, Hv2⟩, ⟨Hm, Hr, Hv1⟩, ⟨Ho', Hv3⟩, ⟨Hx0, Hx1, Hx2, Hg, Hw0, Hw1, Hw2⟩, HO⟩, Hrest⟩
  isplitl [Hx0 Hx1 Hx2]
  · isplitl [Hx0]; · iexact Hx0
    isplitl [Hx1] <;> iassumption
  isplitl [Hg]; · iexact Hg
  isplitl [Hs Hm Hrest Ho Ho' Hr]
  · isplitl [Hs Hm Hrest]
    · isplitl [Hs Hm]
      · isplitl [Hs] <;> iassumption
      iexact Hrest
    isplitl [Ho Ho']
    · isplitl [Ho] <;> iassumption
    iexact Hr
  isplitl [Hw0 Hw1 Hw2 Hv0 Hv1 Hv2 Hv3]
  · isplitl [Hw0 Hw1 Hw2]
    · isplitl [Hw0]; · iexact Hw0
      isplitl [Hw1] <;> iassumption
    isplitl [Hv0]; · iexact Hv0
    isplitl [Hv1]; · iexact Hv1
    isplitl [Hv2] <;> iassumption
  isplitl [Hb] <;> iassumption

end Cert.KernelIdeal.Own

end
-- ==== Proof.KernelIdeal.Region.lean ====
/-
  The region: its proof data, the body's obligation out of the body's run, and the region itself as one step of `main`.
-/
module

public import proofs.«01_k».proof.Proof.KernelIdeal.Deal

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ)

variable (𝒱 : Variants) (d : Dev nD)

/-! ## The proof data -/

/-- Every call's configuration meets its side conditions. -/
abbrev adm : (p : Fin 1) → (pcfgs (F := F) p).Adm := fun p => (cfgs p).toPCfg_adm

/-- Before the body. -/
def atEntry : sProp 𝕄 :=
  iprop(entered m d ∗ StableHlo.held (d : Thread nD τ) handled (V₁ m d) ∗ Pipeline.scopedRest spec0 d ∗ ∃ r, prngReg d r)
/-- After it. -/
def atExit : sProp 𝕄 :=
  iprop(Pipeline.scopedRest spec0 d ∗ (∃ r, prngReg d r) ∗ StableHlo.held (d : Thread nD τ) handled (V₂ m d) ∗ Pipeline.ownSems0 osem d ∗ semVal (barCell d) 0)

/-- The region at a device: one staged input, left as staged; the protocol's debt before the body, none after. -/
def dat : Dat τ (Elt F) Unit ℕ UU ℕ cfg0 d where
  A w := V m d (Pipeline.arrRef spec0 w)
  after
    | 0 => fun t => iblk m d 0 t
  Φ t := if t.val = 0 then atEntry m d else atExit m d
  q _ := fullShare
  owed t := if t.val = 0 then O₀ d else 0

def pdats : (p : Fin 1) → (c : Dev nD) → Dat τ (Elt F) Unit ℕ UU ℕ (Pipeline.pin (pcfgs (F := F)) adm p) c
  | 0 => dat m

theorem dat_before (t : Fin cfg0.N) (x) : (dat m d).before 0 t x = iblk m d 0 t :=
  ((dat m d).before_in_eq_fetched 0 rfl (fun _ => rfl) (fun _ _ _ => rfl) (fun _ => rfl) t x).trans rfl

/-- The debt at a point, as the configuration states it and plainly. -/
theorem owes_in (t : Fin (cfg0.N + 1)) (O : CellTallies nD τ sig Unit) (h : (dat m d).owed t = O) :
    iprop(∃ W, owes (d : Thread nD τ) O W) ⊢ ((dat m d).owesAt () t : sProp 𝕄) := by
  unfold Dat.owesAt Pipeline.owesWithin Dat.bound
  rw [h]
  iintro ⟨%W, HO⟩
  iexists W
  isplitr
  · ipureintro; exact fun _ _ => Or.inl trivial
  iexact HO
theorem owes_out (t : Fin (cfg0.N + 1)) (O : CellTallies nD τ sig Unit) (h : (dat m d).owed t = O) :
    ((dat m d).owesAt () t : sProp 𝕄) ⊢ iprop(∃ W, owes (d : Thread nD τ) O W) := by
  unfold Dat.owesAt Pipeline.owesWithin
  rw [h]
  iintro ⟨%W, -, HO⟩
  iexists W
  iexact HO

/-- The scratch buffers are what the staging leaves of the scoped buffers. -/
theorem scratches_eq : (Pipeline.scopedRest spec0 d : sProp 𝕄) = scratches d := scopedRest0_eq d

/-! ## The body's obligation -/

/-- The staging buffer, holding the scale. -/
theorem staged_eq : (owns (d : Thread nD τ) ((cfg0.win 0).stage (cfg0.slots t0_0 0)) fullShare (iblk m d 0 t0_0) : sProp 𝕄) = gPts m d :=
  owns_whole (d : Thread nD τ) cc0_stg0_0 fullShare (iblk m d 0 t0_0)

/-- What the body leaves is what the region takes back. -/
theorem leave :
    iprop(bodyPost m d ∗ (pRest m d ∗ ∃ r, prngReg d r)) ⊢ iprop(atExit m d ∗ (dat m d).owesAt () (t0_0 : Fin cfg0.N).succ ∗ gPts m d) := by
  unfold atExit
  rw [scratches_eq]
  iintro ⟨Hpost, Hrest, Hp⟩
  ihave H := (of_body m d) $$ [Hpost Hrest]
  · isplitl [Hpost] <;> iassumption
  icases H with ⟨Hs, Hg, Hh, Hv, Hb, HO⟩
  ihave HO := (owes_in m d (t0_0 : Fin cfg0.N).succ 0 rfl) $$ HO
  isplitr [Hg HO]
  · isplitl [Hs]; · iexact Hs
    isplitl [Hp]; · iexact Hp
    isplitl [Hh]; · iexact Hh
    isplitl [Hv] <;> iassumption
  isplitl [HO] <;> iassumption

/-- The body run with what it does not touch beside it. -/
theorem run_beside (K : GSem nD τ sig → ℕ) :
    iprop(bodyPre m K d ∗ (pRest m d ∗ ∃ r, prngReg d r))
      ⊢ wp frame (wpE (defs₀ (F := F)) 𝒱 d none) Set.univ (body (F := F)) fun _ => iprop(atExit m d ∗ (dat m d).owesAt () (t0_0 : Fin cfg0.N).succ ∗ gPts m d) :=
  (sep_mono_l (body_runs m 𝒱 K d)).trans ((wp_frame_r frame (wpE (defs₀ (F := F)) 𝒱 d none) Set.univ).trans
    (wp_mono frame (wpE (defs₀ (F := F)) 𝒱 d none) Set.univ fun _ => leave m d))

theorem runs :
    iprop(atEntry m d ∗ (dat m d).owesAt () (t0_0 : Fin cfg0.N).castSucc ∗ gPts m d)
      ⊢ wp frame (wpE (defs₀ (F := F)) 𝒱 d none) Set.univ (body (F := F)) fun _ => iprop(atExit m d ∗ (dat m d).owesAt () (t0_0 : Fin cfg0.N).succ ∗ gPts m d) := by
  unfold atEntry entered
  rw [scratches_eq]
  iintro ⟨⟨⟨⟨%K, Hk⟩, Hc, Hv⟩, Hh, Hs, Hp⟩, HO, Hg⟩
  ihave HO := (owes_out m d _ (O₀ d) rfl) $$ HO
  ihave H := (to_body m K d) $$ [Hk Hc Hv Hh Hs HO Hg]
  · isplitl [Hk]; · iexact Hk
    isplitl [Hc]; · iexact Hc
    isplitl [Hv]; · iexact Hv
    isplitl [Hh]; · iexact Hh
    isplitl [Hs]; · iexact Hs
    isplitl [Hg] <;> iassumption
  icases H with ⟨H, Hrest⟩
  iapply (run_beside m 𝒱 d K)
  isplitl [H]; · iexact H
  isplitl [Hrest] <;> iassumption

/-- The program the region calls. -/
theorem program_eq : (defs₀ (F := F)) .tc cfg0.body (cfg0.bodyArgs t0_0 (cfg0.slots t0_0)) = body :=
  (show _ = cc0_body (F := F) pRef (Memref.isWhole_whole _) gRef (Memref.isWhole_whole _) outRef (Memref.isWhole_whole _) recvRef (Memref.isWhole_whole _)
      aRef (Memref.isWhole_whole _) bRef (Memref.isWhole_whole _) oRef (Memref.isWhole_whole _) cc0_scratch3 cc0_scratch4 cc0_scratch5 cc0_scratch6 cc0_scratch7 from rfl).trans body_eq

set_option maxRecDepth 20000 in
theorem obligation : BodyObligation (dat m d) (defs₀ (F := F)) 𝒱 () Set.univ := fun t => by
  obtain rfl := fin_N0 t
  rw [bigSep_W0, bigSep_W0]
  rw [show (defs₀ (F := F)) .tc cfg0.body (cfg0.bodyArgs t0_0 (cfg0.slots t0_0)) = body from program_eq]
  show iprop(atEntry m d ∗ (dat m d).owesAt () (t0_0 : Fin cfg0.N).castSucc
      ∗ ∃ x, owns (d : Thread nD τ) ((cfg0.win 0).stage (cfg0.slots t0_0 0)) fullShare ((dat m d).before 0 t0_0 x))
    ⊢ wp frame (wpE (defs₀ (F := F)) 𝒱 d none) Set.univ (body (F := F)) fun _ => iprop(atExit m d
      ∗ (dat m d).owesAt () (t0_0 : Fin cfg0.N).succ ∗ owns (d : Thread nD τ) ((cfg0.win 0).stage (cfg0.slots t0_0 0)) fullShare (iblk m d 0 t0_0))
  rw [staged_eq]
  iintro ⟨He, HO, %x, Hg⟩
  iapply (runs m 𝒱 d)
  isplitl [He]; · iexact He
  isplitl [HO]; · iexact HO
  iapply (Entails.of_eq (staged_eq m d))
  iapply (Entails.of_eq (congrArg (owns (d : Thread nD τ) ((cfg0.win 0).stage (cfg0.slots t0_0 0)) fullShare) (dat_before m d t0_0 x)))
  iexact Hg

/-! ## The region as a step of `main` -/

/-- The kernel's launch facts. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_first : (pdats (F := F) m 0 d).owed 0 = O₀ d := by
  show (if ((0 : Fin (cfg0.N + 1)).val = 0) then O₀ d else 0) = O₀ d
  exact if_pos rfl
theorem share_full (w : Fin 1) : (pdats (F := F) m 0 d).share w = fullShare := by
  obtain rfl := Subsingleton.elim w 0
  rfl
theorem owed_last : (pdats (F := F) m 0 d).owed (Fin.last _) = 0 := rfl

/-- The staging cell ranks below every debt of the protocol. -/
theorem above (t : Fin ((Pipeline.pin (pcfgs (F := F)) adm 0).N + 1)) (g : GSem nD τ sig) (i : Unit) (h : 0 < (pdats (F := F) m 0 d).owed t g i) :
    i ∈ L g ∧ (0 : ℕ) < lv g i := by
  have e : (pdats (F := F) m 0 d).owed t = if t.val = 0 then O₀ d else 0 := rfl
  rw [e] at h
  split at h
  · rcases O₀_pos h with ⟨r, rfl⟩ | ⟨r, rfl⟩ | rfl | rfl
    · exact ⟨by rw [L_tc]; exact Finset.mem_singleton_self _, by rw [lv_cell]; decide⟩
    · exact ⟨by rw [L_tc]; exact Finset.mem_singleton_self _, by rw [lv_cell]; decide⟩
    · exact ⟨by rw [L_tc]; exact Finset.mem_singleton_self _, by rw [lv_bar]; decide⟩
    · exact ⟨by rw [L_tc]; exact Finset.mem_singleton_self _, by rw [lv_bar]; decide⟩
  · exact absurd h (Nat.lt_irrefl 0)

theorem dat_in : iprop(Pipeline.scopedRest (Pipeline.pin (pcfgs (F := F)) adm 0).spec d ∗ (∃ r, prngReg d r)
      ∗ StableHlo.held (d.tc : Thread nD τ) handled (V₁ m d) ∗ entered m d) ⊢ (pdats m 0 d).Φ 0 := by
  show iprop(Pipeline.scopedRest spec0 d ∗ (∃ r, prngReg d r) ∗ StableHlo.held (d : Thread nD τ) handled (V₁ m d) ∗ entered m d) ⊢ atEntry m d
  unfold atEntry
  iintro ⟨Hs, Hp, Hh, He⟩
  isplitl [He]; · iexact He
  isplitl [Hh]; · iexact Hh
  isplitl [Hs] <;> iassumption

theorem dat_out : (pdats m 0 d).Φ (Fin.last (Pipeline.pin (pcfgs (F := F)) adm 0).N)
    ⊢ iprop(Pipeline.scopedRest (Pipeline.pin (pcfgs (F := F)) adm 0).spec d ∗ (∃ r, prngReg d r)
      ∗ StableHlo.held (d.tc : Thread nD τ) handled (V₂ m d) ∗ Pipeline.ownSems0 osem d ∗ semVal (barCell d) 0) :=
  Entails.of_eq (show (pdats m 0 d).Φ (Fin.last (Pipeline.pin (pcfgs (F := F)) adm 0).N) = atExit m d from rfl)

theorem other_same (b : DevRef τ sig) (h : b ∈ others \ handled) : V₂ m d b = V₁ m d b := by
  refine V₂_other m d b ?_ ?_ <;> rintro rfl <;> revert h <;> decide

/-- The one staging cell. -/
def stagingCell (c : Dev nD) : GSem nD τ sig := ((c : Thread nD τ), .dma (((Pipeline.pin (pcfgs (F := F)) adm 0).win (0 : Fin 1)).sem 0))

theorem staging_on (c : Dev nD) : (() : Unit) ∈ L (stagingCell (F := F) c) := by
  unfold stagingCell
  rw [L_tc]
  exact Finset.mem_singleton_self _
theorem staging_level (c : Dev nD) : lv (stagingCell (F := F) c) () ≤ 0 := by
  show lv ((c : Thread nD τ), .dma (win0_0.sem 0)) () ≤ 0
  decide +revert

/-- The staged array is untouched by the region. -/
theorem array_in (w : Fin 1) : (pdats m 0 d).arrAt w 0 = V₁ m d (Proc.devRef .tc (Pipeline.arrRef (Pipeline.pin (pcfgs (F := F)) adm 0).spec w)) := by
  obtain rfl := Subsingleton.elim w 0
  exact (dat m d).arrAt_in 0 rfl 0
theorem array_out (w : Fin 1) : (pdats m 0 d).arrAt w (Pipeline.pin (pcfgs (F := F)) adm 0).N
    = V₂ m d (Proc.devRef .tc (Pipeline.arrRef (Pipeline.pin (pcfgs (F := F)) adm 0).spec w)) := by
  obtain rfl := Subsingleton.elim w 0
  show (dat m d).arrAt 0 cfg0.N = V₂ m d (Proc.devRef .tc main_v2)
  rw [V₂_other m d _ (by decide) (by decide)]
  exact (dat m d).arrAt_in 0 rfl _

set_option backward.isDefEq.respectTransparency.types false in
/-- The region. -/
def region : Pipeline.RegionSeg (pcfgs (F := F)) adm (pdats m) () defs₀ 𝒱 L lv 0 :=
  Pipeline.RegionSeg.ofTalk (pcfgs (F := F)) adm (pdats m) () defs₀ 𝒱 L lv 0 osem osem_facts
    handled others handled_sub kit rfl (fun c => (obligation m 𝒱 c).loose)
    (fun _ => 0) O₀ (fun c => (owed_first m c).trans (zero_add _).symm) (owed_last m) (fun _ => rfl) (share_full m)
    (V₁ m) (V₂ m) (fun c b hb => other_same m c b hb)
    (kept m) (fun c => semVal (barCell c) 0) (entered m) (fun c => semVal (barCell c) 0) (enter m) (dat_in m) (dat_out m)
    (fun c => by iintro H; imodintro; iexact H)
    (fun _ => 0)
    ⟨fun c w s => by obtain rfl := Subsingleton.elim w (0 : Fin 1); obtain rfl := Subsingleton.elim s (0 : Fin 1); exact staging_on (F := F) c,
      fun c w s => by obtain rfl := Subsingleton.elim w (0 : Fin 1); obtain rfl := Subsingleton.elim s (0 : Fin 1); exact staging_level (F := F) c, fun c t g i h => above m c t g i h⟩
    (fun _ => iprop(emp))
    (array_in m) (array_out m)

end Cert.KernelIdeal.Own

end
-- ==== Proof.KernelIdeal.Debts.lean ====
/-
  The launch credit: what the peers owe a device at the start is what that device will wait for.
-/
module

public import proofs.«01_k».proof.Proof.KernelIdeal.Region

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## What each device owes each cell -/

theorem dev_of_cell {k k' : Fin 4} {r r' : Fin 16} {d d' : Dev nD} (h : cell k r d = cell k' r' d') : d = d' :=
  Fin.ext (congrArg (fun g : GSem nD τ sig => g.1.1.val) h)
theorem sem_of_cell {k k' : Fin 4} {r r' : Fin 16} {d d' : Dev nD} (h : cell k r d = cell k' r' d') : k = k' ∧ r = r' := by
  have h := congrArg (fun g : GSem nD τ sig => g.2) h
  have e : tsem k r = tsem k' r' := SemLoc.dma.inj h
  exact ⟨Fin.ext (by rw [← kindOf_tsem k r, e, kindOf_tsem]), by rw [← chunkOf_tsem k r, e, chunkOf_tsem]⟩
theorem dev_of_bar {d d' : Dev nD} (h : barCell d = barCell d') : d = d' :=
  Fin.ext (congrArg (fun g : GSem nD τ sig => g.1.1.val) h)
theorem cell_ne_bar (k : Fin 4) (r : Fin 16) (d d' : Dev nD) : cell k r d ≠ barCell d' := fun h => by
  have h := congrArg (fun g : GSem nD τ sig => g.2) h
  exact absurd h (by intro h; cases h)

/-- One debt, read at a cell. -/
theorem tally_self (g : GSem nD τ sig) (n : ℕ) : (tallyAt g () n : CellTallies nD τ sig Unit) g () = n := by
  rw [tallyAt_apply]; exact if_pos ⟨rfl, rfl⟩
theorem tally_off {g g' : GSem nD τ sig} (n : ℕ) (h : g' ≠ g) : (tallyAt g () n : CellTallies nD τ sig Unit) g' () = 0 := by
  rw [tallyAt_apply]; exact if_neg fun e => h e.1

theorem add_at (A B : CellTallies nD τ sig Unit) (g : GSem nD τ sig) : (A + B) g () = A g () + B g () := by
  rw [Pi.add_apply, Finsupp.add_apply]

theorem sendDue_off (d : Dev nD) (rs : List (Fin 16)) {g : GSem nD τ sig} (h : ∀ r, g ≠ cell 1 r (yPeer d)) : sendDue d rs g () = 0 :=
  Nat.eq_zero_of_not_pos fun hp => (sendDue_pos d rs hp).elim fun r e => h r e
theorem passDue_off (d : Dev nD) (rs : List (Fin 16)) {g : GSem nD τ sig} (h : ∀ r, g ≠ cell 3 r (xPeer d)) : passDue d rs g () = 0 :=
  Nat.eq_zero_of_not_pos fun hp => (passDue_pos d rs hp).elim fun r e => h r e

theorem sendDue_on (d : Dev nD) (r : Fin 16) (rs : List (Fin 16)) : sendDue d rs (cell 1 r (yPeer d)) () = rs.count r * N := by
  induction rs with
  | nil => rw [List.count_nil, Nat.zero_mul]; rfl
  | cons r' rs ih =>
    show (sendDue d rs + tallyAt (cell 1 r' (yPeer d)) () N) _ () = _
    rw [add_at, ih]
    by_cases h : r' = r
    · subst h; rw [tally_self, List.count_cons_self, Nat.add_mul, Nat.one_mul]
    · rw [tally_off N fun e => h (sem_of_cell e).2.symm, List.count_cons_of_ne h, Nat.add_zero]
theorem passDue_on (d : Dev nD) (r : Fin 16) (rs : List (Fin 16)) : passDue d rs (cell 3 r (xPeer d)) () = rs.count r * N := by
  induction rs with
  | nil => rw [List.count_nil, Nat.zero_mul]; rfl
  | cons r' rs ih =>
    show (passDue d rs + tallyAt (cell 3 r' (xPeer d)) () N) _ () = _
    rw [add_at, ih]
    by_cases h : r' = r
    · subst h; rw [tally_self, List.count_cons_self, Nat.add_mul, Nat.one_mul]
    · rw [tally_off N fun e => h (sem_of_cell e).2.symm, List.count_cons_of_ne h, Nat.add_zero]

theorem chunks_once (r : Fin 16) : chunks.count r = 1 := by revert r; decide

theorem x_flip {d c : Dev nD} (h : c = xPeer d) : d = xPeer c := by rw [h, xPeer_xPeer]
theorem y_flip {d c : Dev nD} (h : c = yPeer d) : d = yPeer c := by rw [h, yPeer_yPeer]

theorem owed_bar (d c : Dev nD) : O₀ d (barCell c) () = (if d = xPeer c then 1 else 0) + if d = yPeer c then 1 else 0 := by
  unfold O₀
  rw [add_at, add_at, add_at, passDue_off d _ fun r h => cell_ne_bar _ _ _ _ h.symm, sendDue_off d _ fun r h => cell_ne_bar _ _ _ _ h.symm,
    Nat.add_zero, Nat.zero_add]
  congr 1
  · by_cases h : d = xPeer c
    · subst h; rw [xPeer_xPeer, tally_self, if_pos rfl]
    · rw [if_neg h, tally_off 1 fun e => h (x_flip (dev_of_bar e))]
  · by_cases h : d = yPeer c
    · subst h; rw [yPeer_yPeer, tally_self, if_pos rfl]
    · rw [if_neg h, tally_off 1 fun e => h (y_flip (dev_of_bar e))]

theorem owed_y (d c : Dev nD) (r : Fin 16) : O₀ d (cell 1 r c) () = if d = yPeer c then N else 0 := by
  unfold O₀
  rw [add_at, add_at, add_at, passDue_off d _ fun r h => absurd (sem_of_cell h).1 (by decide), tally_off 1 (cell_ne_bar _ _ _ _), tally_off 1 (cell_ne_bar _ _ _ _),
    Nat.zero_add, Nat.add_zero]
  by_cases h : d = yPeer c
  · subst h
    have e := sendDue_on (yPeer c) r chunks
    rw [yPeer_yPeer, chunks_once, Nat.one_mul] at e
    rw [e, if_pos rfl]
  · rw [if_neg h, sendDue_off d _ fun r e => h (y_flip (dev_of_cell e))]

theorem owed_x (d c : Dev nD) (r : Fin 16) : O₀ d (cell 3 r c) () = if d = xPeer c then N else 0 := by
  unfold O₀
  rw [add_at, add_at, add_at, sendDue_off d _ fun r h => absurd (sem_of_cell h).1 (by decide), tally_off 1 (cell_ne_bar _ _ _ _), tally_off 1 (cell_ne_bar _ _ _ _),
    Nat.add_zero]
  by_cases h : d = xPeer c
  · subst h
    have e := passDue_on (xPeer c) r chunks
    rw [xPeer_xPeer, chunks_once, Nat.one_mul] at e
    rw [e, if_pos rfl]
  · rw [if_neg h, passDue_off d _ fun r e => h (x_flip (dev_of_cell e))]

/-! ## The credit -/

/-- The launch credit of a cell, from the total owed to it. -/
theorem credit_of (c : Dev nD) (sm : SemLoc sig) (n : ℕ) (h : (Finset.univ.sum fun d : Dev nD => O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt
  refine congrArg _ (Finsupp.ext fun u => ?_)
  cases u
  rw [Pipeline.launchCredit_owing, Finsupp.single_eq_same, h]

theorem credit_bar (c : Dev nD) : tallyOn (barCell c) (launchCredit (Pipeline.owing O₀) 0 (barCell c)) = (tallyAt (barCell c) () 2 : CellTallies nD τ sig Unit) :=
  credit_of c _ 2 (by
    rw [Finset.sum_congr rfl fun d _ => owed_bar d c, Finset.sum_add_distrib, Finset.sum_ite_eq' Finset.univ (xPeer c) fun _ => 1,
      Finset.sum_ite_eq' Finset.univ (yPeer c) fun _ => 1, if_pos (Finset.mem_univ _), if_pos (Finset.mem_univ _)])
theorem credit_y (c : Dev nD) (r : Fin 16) :
    tallyOn (cell 1 r c) (launchCredit (Pipeline.owing O₀) 0 (cell 1 r c)) = (tallyAt (cell 1 r c) () N : CellTallies nD τ sig Unit) :=
  credit_of c _ N (by
    rw [Finset.sum_congr rfl fun d _ => owed_y d c r, Finset.sum_ite_eq' Finset.univ (yPeer c) fun _ => N, if_pos (Finset.mem_univ _)])
theorem credit_x (c : Dev nD) (r : Fin 16) :
    tallyOn (cell 3 r c) (launchCredit (Pipeline.owing O₀) 0 (cell 3 r c)) = (tallyAt (cell 3 r c) () N : CellTallies nD τ sig Unit) :=
  credit_of c _ N (by
    rw [Finset.sum_congr rfl fun d _ => owed_x d c r, Finset.sum_ite_eq' Finset.univ (xPeer c) fun _ => N, if_pos (Finset.mem_univ _)])

/-- The copies' semaphores among all. -/
def copySems : Fin 4 × Fin 16 ↪ SemLoc sig :=
  ⟨fun b => .dma (tsem b.1 b.2), fun b b' h => by
    have e := sem_of_cell (d := 0) (d' := 0) (congrArg (fun s => (((0 : Dev nD) : Thread nD τ), s)) h)
    exact Prod.ext e.1 e.2⟩

theorem copySems_sub : Finset.univ.map copySems ⊆ Finset.univ.erase (SemLoc.reg barSem : SemLoc sig) := fun s h => by
  obtain ⟨b, -, rfl⟩ := Finset.mem_map.mp h
  exact Finset.mem_erase.mpr ⟨fun e => (by cases e), Finset.mem_univ _⟩

theorem launch_credits (c : Dev nD) : (Pipeline.launchCred O₀ c : sProp 𝕄) ⊢ credits c := by
  unfold Pipeline.launchCred credits
  rw [bigSep_univ_at _ (SemLoc.reg barSem), credit_bar]
  refine sep_mono_right ((bigSep_subset copySems_sub).trans ?_)
  rw [bigSep_map, kinds]
  show iprop(_ ∗ (bigSep Finset.univ fun r : Fin 16 => cred (tallyOn (cell 1 r c) (launchCredit (Pipeline.owing O₀) 0 (cell 1 r c)))) ∗ _
    ∗ bigSep Finset.univ fun r : Fin 16 => cred (tallyOn (cell 3 r c) (launchCredit (Pipeline.owing O₀) 0 (cell 3 r c)))) ⊢ _
  rw [bigSep_congr (s := Finset.univ) fun r _ => congrArg cred (credit_y c r), bigSep_congr (s := Finset.univ) fun r _ => congrArg cred (credit_x c r)]
  iintro ⟨-, Hy, -, Hx⟩
  isplitl [Hy] <;> iassumption

end Cert.KernelIdeal.Own

end
-- ==== Proof.KernelIdeal.Rights.lean ====
/-
  The launch: every cell's invariant allocated, the copies' cells dormant, and the rights dealt to the devices.
-/
module

public import proofs.«01_k».proof.Proof.KernelIdeal.Debts

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (ρ : Dev nD → PrngReg)

/-! ## The cells and the duties -/

def barEmb : Dev nD ↪ GSem nD τ sig := ⟨fun d => barCell d, fun _ _ h => dev_of_bar h⟩
def cellEmb : Dev nD × Fin 4 × Fin 16 ↪ GSem nD τ sig :=
  ⟨fun b => cell b.2.1 b.2.2 b.1, fun _ _ h => Prod.ext (dev_of_cell h) (Prod.ext (sem_of_cell h).1 (sem_of_cell h).2)⟩

/-- The barrier cells, live from the start; -/
abbrev barCells : Finset (GSem nD τ sig) := Finset.univ.map barEmb
/-- the copies' cells, each opened by its device inside the region. -/
abbrev copyCells : Finset (GSem nD τ sig) := Finset.univ.map cellEmb

theorem cells_apart : Disjoint barCells copyCells := by
  rw [Finset.disjoint_left]
  rintro g h h'
  obtain ⟨d, -, rfl⟩ := Finset.mem_map.mp h
  obtain ⟨b, -, e⟩ := Finset.mem_map.mp h'
  exact cell_ne_bar _ _ _ _ e

/-- A duty: one of a barrier cell's two, or a copy cell's one. -/
def dutyOf (x : Dev nD × (Bool ⊕ (Fin 4 × Fin 16))) : GSem nD τ sig × ℕ × Bool :=
  match x.2 with
  | .inl b => (barCell x.1, 0, b)
  | .inr b => (cell b.1 b.2 x.1, 0, false)

theorem dutyOf_inj : Function.Injective dutyOf := by
  rintro ⟨d, b | b⟩ ⟨d', b' | b'⟩ h
  · have h1 : barCell d = barCell d' := congrArg Prod.fst h
    have h2 : b = b' := congrArg (fun x => x.2.2) h
    rw [dev_of_bar h1, h2]
  · exact absurd (congrArg Prod.fst h : barCell d = cell b'.1 b'.2 d').symm (cell_ne_bar _ _ _ _)
  · exact absurd (congrArg Prod.fst h : cell b.1 b.2 d = barCell d') (cell_ne_bar _ _ _ _)
  · have h1 : cell b.1 b.2 d = cell b'.1 b'.2 d' := congrArg Prod.fst h
    rw [dev_of_cell h1, Prod.ext (sem_of_cell h1).1 (sem_of_cell h1).2]

def duties : Finset (GSem nD τ sig × ℕ × Bool) := Finset.univ.map ⟨dutyOf, dutyOf_inj⟩

/-- The protocol's launch element. -/
abbrev launchElt : UT := launchOf barCells copyCells duties
def u₀ : UU :=
  (initOf (Pipeline.cells (Pipeline.pin (pcfgs (F := F)) adm) cellOf_inj) (Pipeline.launchToks (Pipeline.pin (pcfgs (F := F)) adm) cellOf_inj), (launchElt, 1))

/-! ## What is shared and what is dealt -/

/-- What every device may consult. -/
def shared (κ : GSem nD τ sig → ℕ) : sProp 𝕄 := iprop(invs m κ ∗ bigSep Finset.univ fun d : Dev nD => reached ER (barCell d) 0)

instance shared_persistent (κ : GSem nD τ sig → ℕ) : BI.Persistent (shared m κ) := by unfold shared; infer_instance

theorem shared_intro (κ : GSem nD τ sig → ℕ) :
    iprop((bigSep (barCells ∪ copyCells) fun g => cellInv ER (talkRd m) (κ g) g) ∗ bigSep barCells fun g => reached ER g 0) ⊢ shared m κ := by
  unfold shared invs
  rw [bigSep_union cells_apart, bigSep_map, bigSep_map, bigSep_map]
  exact .rfl

theorem ready_of (d : Dev nD) : (bigSep Finset.univ fun d : Dev nD => reached ER (barCell d) 0 : sProp 𝕄) ⊢ reached ER (barCell d) 0 :=
  bigSep_elim (Φ := fun d : Dev nD => (reached ER (barCell d) 0 : sProp 𝕄)) (Finset.mem_univ d)

/-- A device's own rights. -/
def rights (d : Dev nD) : sProp 𝕄 :=
  iprop(atPos ER (barCell d) 0 ∅ 0 ∗ (bigSep Finset.univ fun b : Fin 4 × Fin 16 => openTok ER (cell b.1 b.2 d)) ∗ tokens d)

theorem dealt_intro (κ : GSem nD τ sig → ℕ) (d : Dev nD) : iprop(shared m κ ∗ rights d) ⊢ dealt m κ d := by
  unfold shared rights dealt peersReady
  iintro ⟨⟨#HI, #HR⟩, Ha, Ho, Ht⟩
  isplitr; · iexact HI
  isplitr
  · isplitr
    · iapply (ready_of (F := F) (yPeer d)); iexact HR
    iapply (ready_of (F := F) (xPeer d)); iexact HR
  isplitl [Ha]; · iexact Ha
  isplitl [Ho] <;> iassumption

/-- A family over a device's duties, kind by kind. -/
theorem duty_kinds (Φ : Bool ⊕ (Fin 4 × Fin 16) → sProp 𝕄) :
    bigSep Finset.univ Φ = iprop((Φ (.inl false) ∗ Φ (.inl true)) ∗ (bigSep Finset.univ fun r => Φ (.inr (0, r))) ∗ (bigSep Finset.univ fun r => Φ (.inr (1, r)))
      ∗ (bigSep Finset.univ fun r => Φ (.inr (2, r))) ∗ bigSep Finset.univ fun r => Φ (.inr (3, r))) := by
  rw [bigSep_univ_sum, kinds, bigSep_univ_eq_bigSepL [false, true] (by decide) (by decide)]
  rfl

/-- The duties' tokens, each handed to the device that pays it. -/
theorem deal_tokens : bigSep duties (fun x => (dutyTok ER x.1 x.2.1 x.2.2 : sProp 𝕄)) = bigSep Finset.univ fun d : Dev nD => tokens d := by
  unfold duties
  rw [bigSep_map, bigSep_univ_prod]
  have e (d : Dev nD) : (bigSep Finset.univ fun b : Bool ⊕ (Fin 4 × Fin 16) => (dutyTok ER (dutyOf (d, b)).1 (dutyOf (d, b)).2.1 (dutyOf (d, b)).2.2 : sProp 𝕄))
      = iprop((dutyTok ER (barCell d) 0 false ∗ dutyTok ER (barCell d) 0 true) ∗ (bigSep Finset.univ fun r : Fin 16 => dutyTok ER (cell 0 r d) 0 false)
        ∗ (bigSep Finset.univ fun r : Fin 16 => dutyTok ER (cell 1 r d) 0 false) ∗ (bigSep Finset.univ fun r : Fin 16 => dutyTok ER (cell 2 r d) 0 false)
        ∗ bigSep Finset.univ fun r : Fin 16 => dutyTok ER (cell 3 r d) 0 false) := duty_kinds _
  refine (bigSep_congr fun d _ => e d).trans ?_
  unfold tokens
  simp only [bigSep_sep']
  rw [bigSep_univ_equiv yTurn (fun d : Dev nD => (dutyTok ER (barCell d) 0 false : sProp 𝕄)), bigSep_univ_equiv xTurn (fun d : Dev nD => (dutyTok ER (barCell d) 0 true : sProp 𝕄)),
    bigSep_univ_equiv yTurn (fun d : Dev nD => (bigSep Finset.univ fun r : Fin 16 => dutyTok ER (cell 1 r d) 0 false : sProp 𝕄)),
    bigSep_univ_equiv xTurn (fun d : Dev nD => (bigSep Finset.univ fun r : Fin 16 => dutyTok ER (cell 3 r d) 0 false : sProp 𝕄))]
  exact BI.equiv_iff.mp ⟨Idealize.SL.BI.sep_comm, Idealize.SL.BI.sep_comm⟩

end Cert.KernelIdeal.Own

end
-- ==== Proof.KernelIdeal.Launch.lean ====
/-
  The run of `main`: the reshapes, then the region; every device's arguments unchanged, its result filled, every counter at zero.
-/
module

public import proofs.«01_k».proof.Proof.KernelIdeal.Rights

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

variable (ρ : Dev nD → PrngReg)

/-- The program's own waits stand in no order beyond the levels. -/
abbrev 𝒱₀ : Variants := Variants.none

/-! ## The two segments -/

/-- What rides beside the buffers through the reshapes. -/
def beside (d : Dev nD) : sProp 𝕄 := iprop(kept m d ∗ (∃ r, prngReg d r) ∗ ∃ W, owes (d : Thread nD τ) (O₀ d) W)

theorem ops_sub : ∀ op ∈ (hostOps0 : List (HloOp τ sig (Elt F))), op.bufs ⊆ bufs := fun op h =>
  Pipeline.sub_ucRefs op (List.forall_iff_forall_mem.mp hostOps0_sub op h)
theorem ops_fresh : ∀ op ∈ (hostOps0 : List (HloOp τ sig (Elt F))), op.fresh = ∅ := fun op h =>
  List.forall_iff_forall_mem.mp hostOps0_fresh op h

def reshapes : Pipeline.HostSeg (Name := ℕ) (U := UU) (pcfgs (F := F)) defs₀ 𝒱₀ L lv :=
  Pipeline.HostSeg.ofOps _ _ _ _ _ bufs hostOps0 ops_sub ops_fresh (V₀ m) (beside m)

theorem split (d : Dev nD) (W : Valuation τ sig (Elt F)) :
    (StableHlo.held (d : Thread nD τ) bufs W : sProp 𝕄) = iprop(StableHlo.held (d : Thread nD τ) (Pipeline.arrRefs (τ := τ) spec0) W ∗ StableHlo.held (d : Thread nD τ) others W) :=
  StableHlo.held_sub_split (d : Thread nD τ) arr_sub W

theorem region_pre (d : Dev nD) : iprop(StableHlo.held (d : Thread nD τ) bufs (V₁ m d) ∗ beside m d) ⊢ (region m 𝒱₀).pre d := by
  show _ ⊢ iprop(StableHlo.held (d.tc : Thread nD τ) (Pipeline.arrRefs (τ := τ) spec0) (V₁ m d) ∗ (∃ r, prngReg d r)
    ∗ (StableHlo.held (d.tc : Thread nD τ) others (V₁ m d) ∗ emp) ∗ kept m d ∗ ∃ W, owes (d : Thread nD τ) (0 + O₀ d) W)
  rw [split, zero_add]
  unfold beside
  iintro ⟨⟨Ha, Hh⟩, Hk, Hp, HO⟩
  isplitl [Ha]; · iexact Ha
  isplitl [Hp]; · iexact Hp
  isplitl [Hh]
  · isplitl [Hh]; · iexact Hh
    iempintro
  isplitl [Hk] <;> iassumption

theorem region_post (d : Dev nD) : (region m 𝒱₀).post d
    ⊢ iprop((StableHlo.held (d : Thread nD τ) bufs (V₂ m d) ∗ semVal (barCell d) 0) ∗ ∃ W, owes (d : Thread nD τ) (0 : CellTallies nD τ sig Unit) W) := by
  show iprop(StableHlo.held (d.tc : Thread nD τ) (Pipeline.arrRefs (τ := τ) spec0) (V₂ m d) ∗ (∃ r, prngReg d r)
    ∗ (StableHlo.held (d.tc : Thread nD τ) others (V₂ m d) ∗ emp) ∗ semVal (barCell d) 0 ∗ ∃ W, owes (d : Thread nD τ) (0 : CellTallies nD τ sig Unit) W) ⊢ _
  rw [split]
  iintro ⟨Ha, -, ⟨Hh, -⟩, Hb, HO⟩
  isplitr [HO]
  · isplitl [Ha Hh]
    · isplitl [Ha] <;> iassumption
    iexact Hb
  iexact HO

def segs : List (Pipeline.Seg (pcfgs (F := F)) adm (pdats m) () defs₀ 𝒱₀ L lv) := [.host (reshapes m), .region (region m 𝒱₀)]

/-! ## The start -/

/-- A device's barrier counter is its one counter outside the region. -/
theorem outside_sems (d : Dev nD) : (unscopedSems0 d : sProp 𝕄) = semVal (barCell d) 0 := by
  unfold unscopedSems0
  rw [show (Finset.univ.filter fun s : SemLoc sig => ¬ s.isScoped .tc) = {SemLoc.reg barSem} from by decide +kernel, bigSep_singleton]

theorem outside_only : ∀ s : SemLoc sig, s.isScoped .tc = false → s = .reg barSem := by decide +kernel

/-- What a device starts with; what it ends with. -/
abbrev T₀ (d : Dev nD) : sProp 𝕄 := iprop(StableHlo.held (d : Thread nD τ) bufs (V₀ m d) ∗ beside m d)
abbrev Tₙ (d : Dev nD) : sProp 𝕄 := iprop(StableHlo.held (d : Thread nD τ) bufs (V₂ m d) ∗ semVal (barCell d) 0)

/-- The part of it that is not the protocol's. -/
def plain (d : Dev nD) : sProp 𝕄 :=
  iprop(StableHlo.held (d : Thread nD τ) bufs (V₀ m d) ∗ credits d ∗ owes (d : Thread nD τ) (O₀ d) ∅ ∗ ∃ r, prngReg d r)

theorem start_intro (κ : GSem nD τ sig → ℕ) (d : Dev nD) : iprop(shared m κ ∗ (rights d ∗ plain m d)) ⊢ T₀ m d := by
  unfold plain T₀ beside kept
  iintro ⟨#HS, Hr, Hh, Hc, HO, Hp⟩
  isplitl [Hh]; · iexact Hh
  isplitl [Hr Hc]
  · isplitl [Hr]
    · iexists κ
      iapply (dealt_intro m κ d)
      isplitr; · iexact HS
      iexact Hr
    iexact Hc
  isplitl [Hp]; · iexact Hp
  iexists ∅
  iexact HO

/-- The protocol's element, kept by the first device until the start. -/
def park (d : Dev nD) : sProp 𝕄 := if d = 0 then BI.own (ER launchElt) else iprop(emp)
theorem park_all : (bigSep Finset.univ park : sProp 𝕄) = BI.own (ER launchElt) := by
  rw [bigSep_univ_at _ (0 : Dev nD), bigSep_congr (s := Finset.univ.erase (0 : Dev nD)) (Ψ := fun _ => (BI.emp : sProp 𝕄))
    fun d h => by unfold park; rw [if_neg (Finset.ne_of_mem_erase h)]; rfl, BI.bigSep_emp_const]
  unfold park
  rw [if_pos rfl]
  exact BI.equiv_iff.mp sep_emp

/-- A device's holdings at the launch. -/
def atLaunch (d : Dev nD) : sProp 𝕄 :=
  iprop(unscopedBufs d (fun b => m ((d : Thread nD τ).loc b)) ∗ unscopedSems0 d ∗ owes (d : Thread nD τ) (O₀ d) ∅ ∗ Pipeline.launchCred O₀ d ∗ prngReg d (ρ d) ∗ park d)

theorem atLaunch_split (d : Dev nD) : atLaunch m ρ d ⊢ (iprop(plain m d ∗ (semVal (barCell d) 0 ∗ park d)) : sProp 𝕄) := by
  unfold atLaunch plain
  rw [show unscopedBufs d (fun b => m ((d : Thread nD τ).loc b)) = StableHlo.held (d : Thread nD τ) bufs (V₀ m d) from Pipeline.unscopedBufs_held d (V₀ m d), outside_sems]
  iintro ⟨Hh, Hb, HO, Hc, Hp, HG⟩
  ihave Hc := (launch_credits (F := F) d) $$ Hc
  isplitr [Hb HG]
  · isplitl [Hh]; · iexact Hh
    isplitl [Hc]; · iexact Hc
    isplitl [HO]; · iexact HO
    iexists (ρ d); iexact Hp
  isplitl [Hb] <;> iassumption

theorem atLaunch_all : (bigSep Finset.univ fun d : Dev nD => atLaunch m ρ d) ⊢ (iprop((bigSep Finset.univ fun d : Dev nD => plain m d)
    ∗ (bigSep Finset.univ fun d : Dev nD => semVal (barCell d) 0) ∗ bigSep Finset.univ fun d : Dev nD => park d) : sProp 𝕄) := by
  rw [← bigSep_sep', ← bigSep_sep']
  exact bigSep_mono fun d _ => atLaunch_split m ρ d
theorem start_pairs : iprop((bigSep Finset.univ fun d : Dev nD => rights d) ∗ bigSep Finset.univ fun d : Dev nD => plain m d)
    ⊢ (bigSep Finset.univ fun d : Dev nD => iprop(rights d ∗ plain m d) : sProp 𝕄) := by
  rw [bigSep_sep']

theorem bar_sems : (bigSep Finset.univ fun d : Dev nD => (semVal (barCell d) 0 : sProp 𝕄)) = bigSep barCells fun g => semVal g 0 :=
  (bigSep_map (s := Finset.univ) barEmb (Φ := fun g : GSem nD τ sig => (semVal g 0 : sProp 𝕄))).symm
theorem bar_places : (bigSep barCells fun g => (atPos ER g 0 ∅ 0 : sProp 𝕄)) = bigSep Finset.univ fun d : Dev nD => atPos ER (barCell d) 0 ∅ 0 :=
  bigSep_map (s := Finset.univ) barEmb (Φ := fun g : GSem nD τ sig => (atPos ER g 0 ∅ 0 : sProp 𝕄))
theorem copy_opens : (bigSep copyCells fun g => (openTok ER g : sProp 𝕄))
    = bigSep Finset.univ fun d : Dev nD => bigSep Finset.univ fun b : Fin 4 × Fin 16 => openTok ER (cell b.1 b.2 d) := by
  rw [bigSep_map, bigSep_univ_prod]
  rfl

theorem rights_all : iprop((bigSep Finset.univ fun d : Dev nD => atPos ER (barCell d) 0 ∅ 0)
      ∗ (bigSep Finset.univ fun d : Dev nD => bigSep Finset.univ fun b : Fin 4 × Fin 16 => openTok ER (cell b.1 b.2 d)) ∗ bigSep Finset.univ fun d : Dev nD => tokens d)
    ⊢ (bigSep Finset.univ fun d : Dev nD => rights d : sProp 𝕄) := by
  unfold rights
  rw [bigSep_sep', bigSep_sep']

theorem init :
    iprop((bigSep Finset.univ fun d : Dev nD => atLaunch m ρ d) ∗ levAts L lv) ⊢ (|={Set.univ}=> bigSep Finset.univ (T₀ m) : sProp 𝕄) := by
  iintro ⟨H, -⟩
  ihave H := (atLaunch_all m ρ) $$ H
  icases H with ⟨Hplain, Hv, Hpark⟩
  ihave Hu := (Entails.of_eq (park_all (F := F))) $$ Hpark
  ihave Hv := (Entails.of_eq (bar_sems (F := F))) $$ Hv
  imod (Rounds.fund_launch ER (talkRd m) cells_apart (fun g _ h => h) duties) $$ [Hv Hu] with ⟨%κ, -, Hinv, Hr, Hat, Hopen, Htok⟩
  · isplitl [Hv] <;> iassumption
  imodintro
  ihave #HS := (shared_intro m κ) $$ [Hinv Hr]
  · isplitl [Hinv] <;> iassumption
  ihave Hat := (Entails.of_eq (bar_places (F := F))) $$ Hat
  ihave Hopen := (Entails.of_eq (copy_opens (F := F))) $$ Hopen
  ihave Htok := (Entails.of_eq (deal_tokens (F := F))) $$ Htok
  ihave Hrights := (rights_all (F := F)) $$ [Hat Hopen Htok]
  · isplitl [Hat]; · iexact Hat
    isplitl [Hopen] <;> iassumption
  iapply (bigSep_with_persistent (R := shared m κ) (Φ := fun d => iprop(rights d ∗ plain m d)) fun d _ => start_intro m κ d)
  isplitr; · iexact HS
  iapply (start_pairs m)
  isplitl [Hrights] <;> iassumption

/-! ## The run -/

/-- The buffers the claim reads. -/
def told : Finset (DevRef τ sig) := {Proc.devRef .tc main_arg0, Proc.devRef .tc main_arg1, Proc.devRef .tc main_v3_0}
theorem told_sub : told ⊆ bufs := by decide
theorem told_eq (d : Dev nD) (W : Valuation τ sig (Elt F)) : (StableHlo.held (d : Thread nD τ) told W : sProp 𝕄)
    = iprop(pt d main_arg0 (W (Proc.devRef .tc main_arg0)) ∗ pt d main_arg1 (W (Proc.devRef .tc main_arg1)) ∗ pt d main_v3_0 (W (Proc.devRef .tc main_v3_0))) := by
  unfold StableHlo.held
  rw [bigSep_eq_bigSepL_of_eq [Proc.devRef .tc main_arg0, Proc.devRef .tc main_arg1, Proc.devRef .tc main_v3_0] (by decide) (by decide)]
  rfl

theorem kept_arg0 (d : Dev nD) : V₂ m d (Proc.devRef .tc main_arg0) = m ((d : Thread nD τ).loc main_arg0) :=
  (V₂_other m d _ (by decide) (by decide)).trans (V_main_arg0 m d)
theorem kept_arg1 (d : Dev nD) : V₂ m d (Proc.devRef .tc main_arg1) = m ((d : Thread nD τ).loc main_arg1) :=
  (V₂_other m d _ (by decide) (by decide)).trans (V_main_arg1 m d)

/-- What the end tells of a device. -/
def Told (d : Dev nD) (s : MemSt nD τ sig (Elt F)) : Prop :=
  (s.mem ((d : Thread nD τ).loc main_arg0) = m ((d : Thread nD τ).loc main_arg0) ∧ s.mem ((d : Thread nD τ).loc main_arg1) = m ((d : Thread nD τ).loc main_arg1)
    ∧ s.mem ((d : Thread nD τ).loc main_v3_0) = outFinal m d) ∧ s.sem (barCell d) = 0

theorem tell (d : Dev nD) (s : Phys nD τ sig (Elt F)) : iprop(Tₙ m d ∗ SI s) ⊢ (|={Set.univ}=> iprop(⌜Told m d s.mem⌝ ∗ SI s) : sProp 𝕄) := by
  dsimp only [Tₙ]
  rw [StableHlo.held_sub_split (d : Thread nD τ) told_sub, told_eq, kept_arg0, kept_arg1, V₂_out]
  unfold pt
  iintro ⟨⟨⟨⟨H0, H1, H2⟩, -⟩, Hb⟩, HSI⟩
  icombine HSI H0 gives %h0
  icombine HSI H1 gives %h1
  icombine HSI H2 gives %h2
  icombine HSI Hb gives %hb
  imodintro
  isplitr
  · ipureintro
    exact ⟨⟨Buf.eq_of_forall_mem_univ h0, Buf.eq_of_forall_mem_univ h1, Buf.eq_of_forall_mem_univ h2⟩, by simpa using hb⟩
  iexact HSI

theorem launch_elt : (ownU (u₀ (F := F)) : sProp 𝕄) ⊢ iprop(BI.own (EP (initOf (Pipeline.cells (Pipeline.pin (pcfgs (F := F)) adm) cellOf_inj)
    (Pipeline.launchToks (Pipeline.pin (pcfgs (F := F)) adm) cellOf_inj))) ∗ BI.own (ER launchElt)) := by
  unfold u₀
  exact ownU_pair _ _

set_option backward.isDefEq.respectTransparency.types false in
/-- From any memory with every counter at zero: `main` ends, each device's buffers hold what the region leaves, every counter is at zero. -/
theorem run : θ_run (defs (F := F)) (onTc (τ := τ) (main (F := F))) ⟨m, fun _ => 0, ρ⟩
    (fun r => (∀ d : Dev nD, r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_v3_0) = outFinal m d) ∧ r.2.sem = fun _ => 0) :=
  Pipeline.θ_run_regions_kit_sems (pcfgs (F := F)) adm (pdats m) () cellOf_inj EP defs₀ 𝒱₀ L lv m ρ main (segs m)
    (fun d Q => by rw [main_segs adm (pdats m) () 𝒱₀ L lv (reshapes m) (region m 𝒱₀) rfl d]; rfl)
    (by simp only [segs, Pipeline.Seg.pipes_host, Pipeline.Seg.pipes_region, Pipeline.Seg.pipes_nil]; decide)
    (O₀ := O₀) (hL := L_of_ne) (G := park) (u₀ := u₀)
    (hu₀ := by
      iintro Hu
      ihave H := (launch_elt (F := F)) $$ Hu
      icases H with ⟨HP, HX⟩
      imodintro
      isplitl [HP]; · iexact HP
      iapply (Entails.of_eq (park_all (F := F)).symm); iexact HX)
    (T₀ := T₀ m) (Tₙ := Tₙ m)
    (hch := ⟨fun _ => .rfl, fun d => region_pre m d, fun d => region_post m d⟩)
    (hinit := init m ρ)
    (QY := Told m)
    (hfin := tell m)
    (hQ := fun s h hs => ⟨fun d => (h d).1,
      sem_eq_zero hs fun d sm hsm => by
        obtain rfl := outside_only sm hsm
        exact (h d).2⟩)

end Cert.KernelIdeal.Own

end
-- ==== Proof.KernelIdeal.Norm.lean ====
/-
  The one place where the kernel and the reference compute differently: a row scaled by the reciprocal root of a
  positive number is the row divided by its root, at every extended real.
-/
module

public import Idealize.ShloMosaic.PureOps.Ideal.Laws

@[expose] public section

noncomputable section

namespace Cert.KernelIdeal.Own

open Idealize.ShloMosaic

/-- Scaling by the reciprocal root is dividing by the root, where the number under the root is positive. -/
theorem scale_eq_div (x z : EReal) (hz : 0 < z) : x * Ideal.rsqrt z = Ideal.div x (Ideal.sqrt z) := by
  induction z using EReal.rec with
  | bot => exact absurd hz (by simp)
  | top => simp [Ideal.div]
  | coe r =>
    have hr : (0 : ℝ) < r := by exact_mod_cast hz
    have hs : Real.sqrt r ≠ 0 := (Real.sqrt_pos.mpr hr).ne'
    rw [Ideal.rsqrt_coe, Ideal.sqrt_coe, if_neg hr.le.not_gt, if_neg hr.ne', if_neg hr.le.not_gt]
    unfold Ideal.div
    rw [if_neg (by exact_mod_cast hs), EReal.coe_inv]

/-- A 32-bit pattern whose sign is clear and whose exponent is neither of the two special ones stands for a positive number. -/
theorem pattern_pos (b : BitVec 32) (hs : (b.extractLsb' (8 + 23) 1 == 1#1) = false) (h1 : (b.extractLsb' 23 8).toNat ≠ 2 ^ 8 - 1)
    (h0 : (b.extractLsb' 23 8).toNat ≠ 0) : (0 : EReal) < Ideal.ofBits .f32 b := by
  show (0 : EReal) < Ideal.ieee 8 23 b
  unfold Ideal.ieee
  simp only [hs]
  rw [if_neg h1, if_neg h0]
  refine EReal.coe_pos.mpr ?_
  have : (0 : ℝ) < ((2 ^ 23 + (b.extractLsb' 0 23).toNat : ℕ) : ℝ) := by
    exact_mod_cast Nat.add_pos_left (by norm_num) _
  rw [if_neg (by decide), one_mul]
  exact mul_pos this (zpow_pos (by norm_num) _)

/-- The number of columns, as the programs spell it, is positive. -/
theorem cols_pos : (0 : EReal) < Ideal.ofBits .f32 0x45800000#32 := pattern_pos _ (by decide) (by decide) (by decide)

/-- The guard under the root, as the programs spell it, is positive. -/
theorem guard_pos : (0 : EReal) < Ideal.ofBits .f32 0x358637BD#32 := pattern_pos _ (by decide) (by decide) (by decide)

/-- A square is nonnegative at every extended real. -/
theorem sq_nonneg' (x : EReal) : 0 ≤ x * x := by
  induction x using EReal.rec with
  | bot => simp
  | top => simp
  | coe r => exact_mod_cast mul_self_nonneg r

/-- A mean of squares with the guard added is positive. -/
theorem mean_pos {n : ℕ} (f : Fin n → EReal) :
    0 < Ideal.div (∑ k, f k * f k) (Ideal.ofBits .f32 0x45800000#32) + Ideal.ofBits .f32 0x358637BD#32 := by
  have hs : 0 ≤ ∑ k, f k * f k := Finset.sum_nonneg fun k _ => sq_nonneg' (f k)
  unfold Ideal.div
  rw [if_neg cols_pos.ne']
  have h : 0 ≤ (∑ k, f k * f k) * (Ideal.ofBits .f32 0x45800000#32)⁻¹ := mul_nonneg hs (EReal.inv_nonneg_of_nonneg cols_pos.le)
  exact lt_of_lt_of_le guard_pos (le_add_of_nonneg_left h)

end Cert.KernelIdeal.Own

end
-- ==== Proof.KernelIdeal.Rows.lean ====
/-
  What the kernel computes, read at one element at the ideal values: the chunks of `p` and gamma in terms of the
  arguments, and one chunk step in terms of the sum of its two chunks.
-/
module

public import proofs.«01_k».proof.Proof.KernelIdeal.Contents
public import proofs.«01_k».proof.Proof.KernelIdeal.Norm
public import Idealize.ShloMosaic.Lib.StableHlo.Run
public import Idealize.ShloMosaic.Lib.Pipeline.Value

@[expose] public section

noncomputable section

namespace Cert.KernelIdeal.Own

open Idealize.ShloMosaic Idealize.ShloMosaic.TcCoe Idealize.ShloMosaic.StableHlo
open Cert.KernelIdeal.Gen

variable (m : (ℓ : Loc nD τ sig) → Buf (Elt Ideal) ℓ)

/-! ## The arguments, reshaped -/

/-- Row `j 0`, column `j 1` of the one slab a device holds. -/
def inSlab (j : S8192x4096.Idx) : S1x8192x4096.Idx := fun a => match a with
  | ⟨0, _⟩ => (⟨0, Nat.one_pos⟩ : Fin 1)
  | ⟨1, _⟩ => (⟨(j 0).val, (j 0).isLt⟩ : Fin 8192)
  | ⟨2, _⟩ => (⟨(j 1).val, (j 1).isLt⟩ : Fin 4096)

theorem p_apply (e : Dev nD) (j : S8192x4096.Idx) : V m e main_v1 j = m ((e : Thread nD τ).loc main_arg0) (inSlab j) := by
  have h : V m e main_v1 = shapeCast S8192x4096 (m ((e : Thread nD τ).loc main_arg0)) shapeCasts_S1x8192x4096_S8192x4096 := by
    unfold V hostOps0
    after_results
    rfl
  rw [h]
  refine shapeCast_apply _ _ _ _ ?_
  show (S1x8192x4096.rowMajor (inSlab j)).val = (S8192x4096.rowMajor j).val
  rw [Shape.rowMajor_val_three, Shape.rowMajor_val_two]
  show (0 * 8192 + (j 0).val) * 4096 + (j 1).val = (j 0).val * 4096 + (j 1).val
  omega

/-- Column `k` of gamma. -/
def inGamma (k : Fin 4096) : S4096.Idx := fun a => match a with
  | ⟨0, _⟩ => k

/-- Column `k` of gamma held as one row. -/
def inRow (k : Fin 4096) : S1x4096.Idx := fun a => match a with
  | ⟨0, _⟩ => (⟨0, Nat.one_pos⟩ : Fin 1)
  | ⟨1, _⟩ => k

theorem g_apply (e : Dev nD) (k : Fin 4096) : gVec m e (inRow k) = m ((e : Thread nD τ).loc main_arg1) (inGamma k) := by
  have h : V m e main_v2 = shapeCast S1x4096 (m ((e : Thread nD τ).loc main_arg1)) shapeCasts_S4096_S1x4096 := by
    unfold V hostOps0
    after_results
    rfl
  have hg : gVec m e (inRow k) = V m e main_v2 (inRow k) :=
    congrArg (V m e main_v2) (funext fun a => Fin.ext (match a with
      | ⟨0, _⟩ => rfl
      | ⟨1, _⟩ => by show 0 * 4096 + 1 * k.val = k.val; omega))
  rw [hg, h]
  refine shapeCast_apply _ _ _ _ ?_
  show (S4096.rowMajor (inGamma k)).val = (S1x4096.rowMajor (inRow k)).val
  rw [Shape.rowMajor_val_one, Shape.rowMajor_val_two]
  show k.val = 0 * 4096 + k.val
  omega

/-! ## One chunk step -/

/-- Row `x 0`, column `k` of a chunk. -/
def atCol (x : S128x4096.Idx) (k : Fin 4096) : S128x4096.Idx := fun a => match a with
  | ⟨0, _⟩ => (⟨(x 0).val, (x 0).isLt⟩ : Fin 128)
  | ⟨1, _⟩ => k

/-- The rows of a chunk step: the two chunks added, each row scaled by the reciprocal root of its guarded mean square,
    each column by gamma. -/
theorem pay_apply (a b : Vec Ideal S128x4096 .f32) (g : Vec Ideal S1x4096 .f32) (x : S128x4096.Idx) :
    k0_pay1 a b g x = (a x + b x) * Ideal.rsqrt (Ideal.div (∑ k : Fin 4096, (a (atCol x k) + b (atCol x k)) * (a (atCol x k) + b (atCol x k)))
        (Ideal.ofBits .f32 0x45800000#32) + Ideal.ofBits .f32 0x358637BD#32) * g (inRow (x 1)) := by
  unfold k0_pay1
  rw [shapeCast_self]
  refine congrArg₂ (fun u v : EReal => (a x + b x) * u * v) ?_ ?_
  · refine (broadcastTo_apply _ _ x (fun a => match a with
      | ⟨0, _⟩ => (⟨(x 0).val, (x 0).isLt⟩ : Fin 128)
      | ⟨1, _⟩ => (⟨0, Nat.one_pos⟩ : Fin 1)) (fun a => match a with
      | ⟨0, _⟩ => rfl
      | ⟨1, _⟩ => rfl)).trans ?_
    refine congrArg (fun s : EReal => Ideal.rsqrt (Ideal.div s (Ideal.ofBits .f32 0x45800000#32) + Ideal.ofBits .f32 0x358637BD#32)) ?_
    refine (shapeCast_apply _ _ _ (fun a => match a with
      | ⟨0, _⟩ => (⟨(x 0).val, (x 0).isLt⟩ : Fin 128)) ?_).trans ?_
    · rw [Shape.rowMajor_val_one, Shape.rowMajor_val_two]
      show (x 0).val = (x 0).val * 1 + 0
      omega
    refine (Ideal.multiReduction_add_single _ _ _ _ _ _).trans (Finset.sum_congr rfl fun k _ => ?_)
    have hk : ∀ u : S128x4096.Idx, u = atCol x k → (a u + b u) * (a u + b u) = (a (atCol x k) + b (atCol x k)) * (a (atCol x k) + b (atCol x k)) := by
      rintro u rfl; rfl
    exact hk _ (funext fun a => Fin.ext (by match a with | ⟨0, _⟩ => rfl | ⟨1, _⟩ => rfl))
  · rw [shapeCast_self]
    exact broadcastTo_apply _ _ x (inRow (x 1)) (fun a => match a with
      | ⟨0, _⟩ => rfl
      | ⟨1, _⟩ => rfl)

end Cert.KernelIdeal.Own

end
-- ==== Proof.KernelIdeal.Value.lean ====
/-
  The kernel's result is the reference's, block by block, at the ideal values: the two chunks of a chunk step are the
  same rows of the two halves of `partial`, and scaling by the reciprocal root is dividing by the root.
-/
module

public import proofs.«01_k».proof.Proof.KernelIdeal.Rows
public import proofs.«01_k».proof.Proof.Gen.ReferenceIdeal.Read
public import Idealize.ShloMosaic.Lib.Layout

@[expose] public section

noncomputable section

namespace Cert.KernelIdeal.Own

open Idealize.ShloMosaic Idealize.ShloMosaic.TcCoe
open Cert.KernelIdeal.Gen
open Cert.ReferenceIdeal.Read (val_main_v0 val_main_v13 idx_main_v0)

variable (m : (ℓ : Loc nD τ sig) → Buf (Elt Ideal) ℓ)
variable (X : (⟨3, ![2, 8192, 4096]⟩ : Shape).Idx → EReal) (G : S4096.Idx → EReal)

/-- Every device holds its slab of `partial`: the slab its `y` coordinate names. -/
def HoldsSlab : Prop := ∀ c : Dev nD, m ((c : Thread nD τ).loc main_arg0)
  = Layout.blockN ⟨3, ![1, 8192, 4096]⟩ ⟨3, ![2, 8192, 4096]⟩ (Layout.meshBlock [2, 2] ![[1], [], []] c) X

/-- Every device holds gamma. -/
def HoldsGamma : Prop := ∀ c : Dev nD, m ((c : Thread nD τ).loc main_arg1) = G

/-- The `y` coordinate of a device, as a slab number. -/
def slabOf (e : Dev nD) : Fin 2 := ⟨e.val % 2, Nat.mod_lt _ (by decide)⟩

variable {m X G}

theorem p_slab (hX : HoldsSlab m X) (e : Dev nD) (j : S8192x4096.Idx) : V m e main_v1 j = X (idx_main_v0 j (slabOf e)) := by
  rw [p_apply, hX e, Layout.blockN_apply]
  refine congrArg X (funext fun a => Fin.ext ?_)
  rw [Layout.TilesN.idx_val]
  match a with
  | ⟨0, _⟩ =>
    show (e.val / 1 % 2 * 1 + 0) * 1 + 0 = e.val % 2
    omega
  | ⟨1, _⟩ =>
    show 0 * 8192 + (j 0).val = (j 0).val
    omega
  | ⟨2, _⟩ =>
    show 0 * 4096 + (j 1).val = (j 1).val
    omega

/-- Where element `x` of device `e`'s chunk `r` lies in the reference's result. -/
def inWhole (e : Dev nD) (r : Fin 16) (x : S128x4096.Idx) : S8192x4096.Idx := fun a => match a with
  | ⟨0, _⟩ => (⟨mineRow e r + (x 0).val, by
      have h0 : (x 0).val < 128 := (x 0).isLt
      have he : e.val < 4 := e.isLt
      have hr := r.isLt
      show mineRow e r + (x 0).val < 8192
      unfold mineRow; omega⟩ : Fin 8192)
  | ⟨1, _⟩ => (⟨(x 1).val, (x 1).isLt⟩ : Fin 4096)

theorem mine_apply (hX : HoldsSlab m X) (e : Dev nD) (r : Fin 16) (x : S128x4096.Idx) :
    mineVal m e r x = X (idx_main_v0 (inWhole e r x) (slabOf e)) := by
  rw [← p_slab hX]
  refine congrArg (V m e main_v1) (funext fun a => Fin.ext ?_)
  match a with
  | ⟨0, _⟩ =>
    show k0_off2 e (BitVec.ofNat 32 (128 * r.val)) 0 + 1 * (x 0).val = mineRow e r + (x 0).val
    rw [k0_off2_eq]; show mineRow e r + 1 * (x 0).val = _; omega
  | ⟨1, _⟩ =>
    show k0_off2 e (BitVec.ofNat 32 (128 * r.val)) 1 + 1 * (x 1).val = (x 1).val
    rw [k0_off2_eq]; show 0 + 1 * (x 1).val = _; omega

theorem send_apply (hX : HoldsSlab m X) (e : Dev nD) (r : Fin 16) (x : S128x4096.Idx) :
    sendVal m (yPeer e) r x = X (idx_main_v0 (inWhole e r x) (slabOf (yPeer e))) := by
  rw [← p_slab hX]
  refine congrArg (V m (yPeer e) main_v1) (funext fun a => Fin.ext ?_)
  match a with
  | ⟨0, _⟩ =>
    show k0_off1 (yPeer e) (BitVec.ofNat 32 (128 * r.val)) 0 + 1 * (x 0).val = mineRow e r + (x 0).val
    rw [k0_off1_eq]; show sendRow (yPeer e) r + 1 * (x 0).val = _; rw [sendRow_yPeer]; omega
  | ⟨1, _⟩ =>
    show k0_off1 (yPeer e) (BitVec.ofNat 32 (128 * r.val)) 1 + 1 * (x 1).val = (x 1).val
    rw [k0_off1_eq]; show 0 + 1 * (x 1).val = _; omega

/-- The two chunks of a step add up to the reference's sum of the two slabs. -/
theorem chunks_add (hX : HoldsSlab m X) (e : Dev nD) (r : Fin 16) (x : S128x4096.Idx) :
    (mineVal m e r x : EReal) + sendVal m (yPeer e) r x = val_main_v0 (F := Ideal) X (inWhole e r x) := by
  rw [mine_apply hX, send_apply hX, Cert.ReferenceIdeal.Read.val_main_v0_apply, Fin.sum_univ_two]
  have hz : (Cert.ReferenceIdeal.Read.val_main_cst (F := Ideal)) (Shape.Idx.first Cert.ReferenceIdeal.Gen.h_S_) = (0 : EReal) := Ideal.ofBits_zero_f32
  rw [hz, zero_add]
  have hs : (slabOf e = 0 ∧ slabOf (yPeer e) = 1) ∨ (slabOf e = 1 ∧ slabOf (yPeer e) = 0) := by revert e; decide +kernel
  rcases hs with ⟨h0, h1⟩ | ⟨h0, h1⟩
  · rw [h0, h1]
  · rw [h0, h1]; exact add_comm _ _

/-- Row `j 0`, column `k` of the reference's result. -/
def wholeAt (j : S8192x4096.Idx) (k : Fin 4096) : S8192x4096.Idx := fun a => match a with
  | ⟨0, _⟩ => (⟨(j 0).val, (j 0).isLt⟩ : Fin 8192)
  | ⟨1, _⟩ => k

theorem inWhole_atCol (e : Dev nD) (r : Fin 16) (x : S128x4096.Idx) (k : Fin 4096) : inWhole e r (atCol x k) = wholeAt (inWhole e r x) k :=
  funext fun a => Fin.ext (match a with
    | ⟨0, _⟩ => rfl
    | ⟨1, _⟩ => rfl)

/-- The guarded mean square of row `j 0` of the reference's sum. -/
def meanSq (X : (⟨3, ![2, 8192, 4096]⟩ : Shape).Idx → EReal) (j : S8192x4096.Idx) : EReal :=
  Ideal.div (∑ k : Fin 4096, (val_main_v0 (F := Ideal) X (wholeAt j k) : EReal) * val_main_v0 (F := Ideal) X (wholeAt j k))
    (Ideal.ofBits .f32 0x45800000#32) + Ideal.ofBits .f32 0x358637BD#32

theorem meanSq_pos (X : (⟨3, ![2, 8192, 4096]⟩ : Shape).Idx → EReal) (j : S8192x4096.Idx) : 0 < meanSq X j :=
  mean_pos fun k => val_main_v0 (F := Ideal) X (wholeAt j k)

open Cert.ReferenceIdeal.Read in
/-- The reference's sum of squares of row `j 0`. -/
theorem squares_apply (X : (⟨3, ![2, 8192, 4096]⟩ : Shape).Idx → EReal) (j : S8192x4096.Idx) :
    val_main_v3 (F := Ideal) X (idx_main_v9 j)
      = ∑ k : Fin 4096, (val_main_v0 (F := Ideal) X (wholeAt j k) : EReal) * val_main_v0 (F := Ideal) X (wholeAt j k) := by
  have hz : (val_main_cst_0 (F := Ideal)) (Shape.Idx.first Cert.ReferenceIdeal.Gen.h_S_) = (0 : EReal) := Ideal.ofBits_zero_f32
  rw [val_main_v3_apply, val_main_v2_apply, hz, zero_add]
  refine Finset.sum_congr rfl fun k _ => ?_
  rw [val_main_v1_apply]
  have hk : idx_main_v2 (idx_main_v3 (idx_main_v9 j)) k = wholeAt j k := funext fun a => Fin.ext (match a with
    | ⟨0, _⟩ => rfl
    | ⟨1, _⟩ => rfl)
  rw [hk]
  rfl

open Cert.ReferenceIdeal.Read in
/-- The reference's result at one element. -/
theorem whole_apply (X : (⟨3, ![2, 8192, 4096]⟩ : Shape).Idx → EReal) (G : S4096.Idx → EReal) (j : S8192x4096.Idx) :
    val_main_v13 (F := Ideal) X G j
      = Ideal.div (val_main_v0 (F := Ideal) X j) (Ideal.sqrt (meanSq X j)) * G (inGamma (j 1)) := by
  have hroot : val_main_v9 (F := Ideal) X j = Ideal.sqrt (meanSq X j) := by
    rw [val_main_v9_apply, val_main_v8_apply, val_main_v7_apply, val_main_v5_apply, squares_apply, val_main_v4_apply, val_main_v6_apply]
    rfl
  have hgamma : val_main_v12 (F := Ideal) G j = G (inGamma (j 1)) := by
    rw [val_main_v12_apply, val_main_v11_apply]
    exact congrArg G (funext fun a => Fin.ext (match a with | ⟨0, _⟩ => rfl))
  rw [val_main_v13_apply, val_main_v10_apply, hroot, hgamma]
  rfl

/-- A chunk step computes the reference's rows. -/
theorem computed_apply (hX : HoldsSlab m X) (hG : HoldsGamma m G) (e : Dev nD) (r : Fin 16) (x : S128x4096.Idx) :
    computed m e r x = val_main_v13 (F := Ideal) X G (inWhole e r x) := by
  have hsum : (∑ k : Fin 4096, ((mineVal m e r (atCol x k) : EReal) + sendVal m (yPeer e) r (atCol x k))
        * ((mineVal m e r (atCol x k) : EReal) + sendVal m (yPeer e) r (atCol x k)))
      = ∑ k : Fin 4096, (val_main_v0 (F := Ideal) X (wholeAt (inWhole e r x) k) : EReal) * val_main_v0 (F := Ideal) X (wholeAt (inWhole e r x) k) :=
    Finset.sum_congr rfl fun k _ => by rw [chunks_add hX, inWhole_atCol]
  have hg : gVec m e (inRow (x 1)) = G (inGamma (x 1)) :=
    (g_apply m e (x 1)).trans (congrFun (hG e) (inGamma (x 1)))
  unfold computed
  rw [pay_apply, hsum, chunks_add hX, hg, whole_apply]
  exact congrArg (· * G (inGamma (x 1))) (scale_eq_div _ _ (meanSq_pos X (inWhole e r x)))

/-- Every device ends with its block of the reference's result. -/
theorem result_eq (hX : HoldsSlab m X) (hG : HoldsGamma m G) (c : Dev nD) :
    outFinal m c = Layout.blockN ⟨2, ![4096, 4096]⟩ ⟨2, ![8192, 4096]⟩ (Layout.meshBlock [2, 2] ![[1], []] c) (val_main_v13 (F := Ideal) X G) := by
  funext i
  have hi : (i 0).val < 4096 := (i 0).isLt
  have hc : c.val < 4 := c.isLt
  rw [Layout.blockN_apply]
  unfold outFinal
  rw [computed_apply hX hG]
  refine congrArg (val_main_v13 (F := Ideal) X G) (funext fun a => Fin.ext ?_)
  rw [Layout.TilesN.idx_val]
  match a with
  | ⟨0, _⟩ =>
    show 4096 * ((2 * ((i 0).val / 2048) + c.val % 2) % 2) + 2048 * ((2 * ((i 0).val / 2048) + c.val % 2) / 2) + 128 * ((i 0).val % 2048 / 128)
        + (i 0).val % 128 = (c.val / 1 % 2 * 1 + 0) * 4096 + (i 0).val
    omega
  | ⟨1, _⟩ =>
    show (i 1).val = 0 * 4096 + (i 1).val
    omega

end Cert.KernelIdeal.Own

end
-- ==== Proof.lean ====
/-
  The proof of `Cert.Claim`: the three frames, that the idealization keeps the kernel, and that the kernel's result is
  the reference's, block by block, at the ideal values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Launch
public import proofs.«01_k».proof.Proof.KernelIdeal.Launch
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to its end on every device, keeps its arguments, and leaves every counter at zero. -/
theorem frame_kernel : Cert.quiescent_Kernel := fun m g _ =>
  (θ_run _ _ _).mono (fun _ h => ⟨fun c => ⟨(h.1 c).1, (h.1 c).2.1⟩, h.2⟩) (Cert.Kernel.Own.run (F := Bits) m g)

/-- The same of the kernel read at the ideal values. -/
theorem frame_kernel_ideal : Cert.quiescent_KernelIdeal := fun m g _ =>
  (θ_run _ _ _).mono (fun _ h => ⟨fun c => ⟨(h.1 c).1, (h.1 c).2.1⟩, h.2⟩) (Cert.KernelIdeal.Own.run (F := Ideal) m g)

/-- The same of the reference, which has no counters. -/
theorem frame_reference : Cert.quiescent_ReferenceIdeal := fun m g _ =>
  (θ_run _ _ _).mono (fun r h => ⟨fun c => ⟨(h c).2.1, (h c).2.2⟩, sem_eq_zero_of_no_sems (by decide) r.2⟩)
    (Cert.ReferenceIdeal.Value.run (F := Ideal) m g)

/-- Every device's result is its block of the reference's. -/
theorem value : Cert.algebraic_KernelIdeal_ReferenceIdeal := by
  intro m g m' g' _ hagree
  refine ⟨Cert.ReferenceIdeal.Read.val_main_v13 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run _ _ _).mono
      (fun _ h c => ⟨(h.1 c).2.2.trans (Cert.KernelIdeal.Own.result_eq (fun c => (hagree c).1) (fun c => (hagree c).2) c), (h.1 c).1, (h.1 c).2.1⟩)
      (Cert.KernelIdeal.Own.run (F := Ideal) m g)
  · exact (θ_run _ _ _).mono
      (fun _ h => ⟨(h 0).1.trans (Cert.ReferenceIdeal.Read.val_main_v13_eq _ _), (h 0).2.1, (h 0).2.2⟩)
      (Cert.ReferenceIdeal.Value.run (F := Ideal) m' g')

theorem claim : Cert.Claim := ⟨Cert.Kernel.Gen.facts, Cert.KernelIdeal.Gen.facts, Cert.ReferenceIdeal.Gen.facts,
  frame_kernel, frame_kernel_ideal, frame_reference, trivial, value⟩

end Cert.Proof

end
